-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024 : Shape := ⟨1, ![1024]⟩
abbrev S100000x64 : Shape := ⟨2, ![100000, 64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S100000x64 .f32) (main_arg2 : FVec F S100000x64 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S100000x64 : Shape := ⟨2, ![100000, 64]⟩
abbrev S50000x128 : Shape := ⟨2, ![50000, 128]⟩
abbrev S1x1024 : Shape := ⟨2, ![1, 1024]⟩
abbrev S1024x128 : Shape := ⟨2, ![1024, 128]⟩
abbrev S1x128 : Shape := ⟨2, ![1, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S_ : Shape := ⟨0, ![]⟩
abbrev S1x16 : Shape := ⟨2, ![1, 16]⟩
abbrev S1x128x128 : Shape := ⟨3, ![1, 128, 128]⟩
abbrev S128x128 : Shape := ⟨2, ![128, 128]⟩
abbrev S128 : Shape := ⟨1, ![128]⟩
abbrev S64x100000 : Shape := ⟨2, ![64, 100000]⟩
abbrev S1024x1 : Shape := ⟨2, ![1024, 1]⟩
abbrev S100000x1024 : Shape := ⟨2, ![100000, 1024]⟩
abbrev S64x4096 : Shape := ⟨2, ![64, 4096]⟩
abbrev S4096x1024 : Shape := ⟨2, ![4096, 1024]⟩
abbrev S1024x64 : Shape := ⟨2, ![1024, 64]⟩
abbrev S1x4096 : Shape := ⟨2, ![1, 4096]⟩
abbrev S1024x100000 : Shape := ⟨2, ![1024, 100000]⟩

abbrev nBuf : Table → Nat
  | .hbm => 10
  | .local .tc .vmem => 8
  | .local .scVector .vmem => 3
  | _ => 0

abbrev bufTy : (tb : Table) → Fin (nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S50000x128, .f32⟩
  | .hbm, ⟨4, _⟩ => ⟨S1x1024, .i32⟩
  | .hbm, ⟨5, _⟩ => ⟨S1024x128, .f32⟩
  | .hbm, ⟨6, _⟩ => ⟨S64x100000, .f32⟩
  | .hbm, ⟨7, _⟩ => ⟨S1024x1, .i32⟩
  | .hbm, ⟨8, _⟩ => ⟨S100000x1024, .f32⟩
  | .hbm, ⟨9, _⟩ => ⟨S1024x100000, .f32⟩
  | .local .tc .vmem, ⟨0, _⟩ => ⟨S1024x128, .f32⟩
  | .local .tc .vmem, ⟨1, _⟩ => ⟨S1024x1, .i32⟩
  | .local .tc .vmem, ⟨2, _⟩ => ⟨S64x4096, .f32⟩
  | .local .tc .vmem, ⟨3, _⟩ => ⟨S64x4096, .f32⟩
  | .local .tc .vmem, ⟨4, _⟩ => ⟨S4096x1024, .f32⟩
  | .local .tc .vmem, ⟨5, _⟩ => ⟨S4096x1024, .f32⟩
  | .local .tc .vmem, ⟨6, _⟩ => ⟨S1x1024, .f32⟩
  | .local .tc .vmem, ⟨7, _⟩ => ⟨S1x1024, .f32⟩
  | .local .scVector .vmem, ⟨0, _⟩ => ⟨S1x128, .i32⟩
  | .local .scVector .vmem, ⟨1, _⟩ => ⟨S2x1x128, .i32⟩
  | .local .scVector .vmem, ⟨2, _⟩ => ⟨S2x128x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_scratch0 : Ref sig .tc := ⟨.vmem, 6, rfl⟩
abbrev cc1_scratch1 : Ref sig .tc := ⟨.vmem, 7, rfl⟩
abbrev cc0_scratch0 : Ref sig .scVector := ⟨.vmem, 0, rfl⟩
abbrev cc0_scoped0 : Ref sig .scVector := ⟨.vmem, 1, rfl⟩
abbrev cc0_scoped2 : Ref sig .scVector := ⟨.vmem, 2, rfl⟩
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let c0_i32_5_r0 : BitVec 32 := 0#32
  let v10_r0 : BitVec 1 := Scalar.cmpi .sgt v7 c0_i32_5_r0
  let v11_r0 : BitVec 32 := Scalar.extui v10_r0
  let c0_i32_6_r0 : BitVec 32 := 0#32
  let v12_r0 : BitVec 1 := Scalar.cmpi .ne v11_r0 c0_i32_6_r0
  v12_r0

def k0_cond2 (i : grid0.Coords) : BitVec 1 :=
  let true_22_r0 : BitVec 1 := 1#1
  let c1_i32_7_r0 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v13_r0 : BitVec 32 := Scalar.muli c1_i32_7_r0 v1
  let c0_i32_21_r0 : BitVec 32 := 0#32
  let v31_r0 : BitVec 1 := Scalar.cmpi .sgt v13_r0 c0_i32_21_r0
  let v32_r0 : BitVec 1 := Scalar.andi true_22_r0 v31_r0
  let true_23_r0 : BitVec 1 := 1#1
  let v33_r0 : BitVec 1 := Scalar.andi v32_r0 true_23_r0
  let v34_r0 : BitVec 32 := Scalar.extui v33_r0
  let c0_i32_25_r0 : BitVec 32 := 0#32
  let v35_r0 : BitVec 1 := Scalar.cmpi .ne v34_r0 c0_i32_25_r0
  v35_r0

def k0_off1 : Fin 3 → Nat :=
  let c0_i32_24_r0 : BitVec 32 := 0#32
  let c2_i32_r0 : BitVec 32 := 2#32
  let v76_r0 : BitVec 32 := Scalar.remui c0_i32_24_r0 c2_i32_r0
  let c0_i32_57_r0 : BitVec 32 := 0#32
  let c0_i32_58_r0 : BitVec 32 := 0#32
  ![v76_r0.toNat, 0, 0]
def k0_off2 (i : grid0.Coords) : Fin 2 → Nat :=
  let c0_i32_59_r0 : BitVec 32 := 0#32
  let c128_i32_r0 : BitVec 32 := 128#32
  let c0_i32_10_r0 : BitVec 32 := 0#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v16_r0 : BitVec 32 := Scalar.addi c0_i32_10_r0 v6
  let v77_r0 : BitVec 32 := Scalar.muli c128_i32_r0 v16_r0
  ![0, v77_r0.toNat]
def k0_off3 : Fin 1 → Nat :=
  let c0_i32_24_r0 : BitVec 32 := 0#32
  let c2_i32_r0 : BitVec 32 := 2#32
  let v76_r0 : BitVec 32 := Scalar.remui c0_i32_24_r0 c2_i32_r0
  ![v76_r0.toNat]
@[reducible] def k0_t1_loop (i : grid0.Coords) : Scf.Loop 32 :=
  let c0_i32_29_r0 : BitVec 32 := 0#32
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_35_r0 : BitVec 32 := 1#32
  ⟨c0_i32_29_r0, v42_r0, c1_i32_35_r0⟩
def k0_off4 (arg7_r0 : BitVec 32) : Fin 3 → Nat :=
  let c2_i32_105_r0 : BitVec 32 := 2#32
  let v164_r0 : BitVec 32 := Scalar.remui arg7_r0 c2_i32_105_r0
  let c0_i32_106_r0 : BitVec 32 := 0#32
  let c0_i32_107_r0 : BitVec 32 := 0#32
  ![v164_r0.toNat, 0, 0]
def k0_cond3 (i : grid0.Coords) (k0_t1 : Fin (k0_t1_loop i).trips) (arg11_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let true_65_r0 : BitVec 1 := 1#1
  let c1_i32_64_r0 : BitVec 32 := 1#32
  let v87_r0 : BitVec 32 := Scalar.addi arg11_r0 c1_i32_64_r0
  let v88_r0 : BitVec 32 := Scalar.select true_65_r0 v87_r0 arg11_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v97_r0 : BitVec 1 := Scalar.cmpi .ne v80_r0 v91_r0
  let c0_i32_29_r0 : BitVec 32 := 0#32
  let c1_i32_35_r0 : BitVec 32 := 1#32
  let arg6_r0 : BitVec 32 := Scf.iv c0_i32_29_r0 c1_i32_35_r0 k0_t1
  let c1_i32_57_r0 : BitVec 32 := 1#32
  let v76_r0 : BitVec 32 := Scalar.muli c1_i32_57_r0 v1
  let c2_i32_r0 : BitVec 32 := 2#32
  let v98_r0 : BitVec 32 := Scalar.subi v76_r0 c2_i32_r0
  let c1_i32_70_r0 : BitVec 32 := 1#32
  let v99_r0 : BitVec 32 := Scalar.addi v98_r0 c1_i32_70_r0
  let v100_r0 : BitVec 1 := Scalar.cmpi .sge arg6_r0 v99_r0
  let true_71_r0 : BitVec 1 := 1#1
  let v101_r0 : BitVec 1 := Scalar.xori v100_r0 true_71_r0
  let v102_r0 : BitVec 1 := Scalar.andi v97_r0 v101_r0
  let true_72_r0 : BitVec 1 := 1#1
  let v103_r0 : BitVec 1 := Scalar.andi v102_r0 true_72_r0
  let v104_r0 : BitVec 32 := Scalar.extui v103_r0
  let c0_i32_73_r0 : BitVec 32 := 0#32
  let v105_r0 : BitVec 1 := Scalar.cmpi .ne v104_r0 c0_i32_73_r0
  v105_r0

def k0_off5 (i : grid0.Coords) (arg11_r0 : BitVec 32) : Fin 2 → Nat :=
  let c0_i32_108_r0 : BitVec 32 := 0#32
  let c128_i32_r0 : BitVec 32 := 128#32
  let true_65_r0 : BitVec 1 := 1#1
  let c1_i32_64_r0 : BitVec 32 := 1#32
  let v87_r0 : BitVec 32 := Scalar.addi arg11_r0 c1_i32_64_r0
  let v88_r0 : BitVec 32 := Scalar.select true_65_r0 v87_r0 arg11_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v89_r0 : BitVec 1 := Scalar.cmpi .eq v88_r0 v1
  let c0_i32_66_r0 : BitVec 32 := 0#32
  let v90_r0 : BitVec 32 := Scalar.select v89_r0 c0_i32_66_r0 v88_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v91_r0 : BitVec 32 := Scalar.addi v90_r0 v6
  let v165_r0 : BitVec 32 := Scalar.muli c128_i32_r0 v91_r0
  ![0, v165_r0.toNat]
def k0_off6 (arg7_r0 : BitVec 32) : Fin 1 → Nat :=
  let c2_i32_105_r0 : BitVec 32 := 2#32
  let v164_r0 : BitVec 32 := Scalar.remui arg7_r0 c2_i32_105_r0
  ![v164_r0.toNat]
def k0_off7 (arg8_r0 : BitVec 32) : Fin 3 → Nat :=
  let c2_i32_105_r0 : BitVec 32 := 2#32
  let v165_r0 : BitVec 32 := Scalar.remui arg8_r0 c2_i32_105_r0
  let c0_i32_106_r0 : BitVec 32 := 0#32
  let c0_i32_107_r0 : BitVec 32 := 0#32
  ![v165_r0.toNat, 0, 0]
def k0_cond4 (i : grid0.Coords) (k0_t1 : Fin (k0_t1_loop i).trips) (arg11_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let true_61_r0 : BitVec 1 := 1#1
  let c1_i32_60_r0 : BitVec 32 := 1#32
  let v81_r0 : BitVec 32 := Scalar.subi arg11_r0 c1_i32_60_r0
  let v82_r0 : BitVec 32 := Scalar.select true_61_r0 v81_r0 arg11_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v115_r0 : BitVec 1 := Scalar.cmpi .ne v80_r0 v86_r0
  let c0_i32_29_r0 : BitVec 32 := 0#32
  let c1_i32_35_r0 : BitVec 32 := 1#32
  let arg6_r0 : BitVec 32 := Scf.iv c0_i32_29_r0 c1_i32_35_r0 k0_t1
  let c0_i32_58_r0 : BitVec 32 := 0#32
  let v77_r0 : BitVec 1 := Scalar.cmpi .eq arg6_r0 c0_i32_58_r0
  let v116_r0 : BitVec 1 := Scalar.ori v115_r0 v77_r0
  let c0_i32_79_r0 : BitVec 32 := 0#32
  let v117_r0 : BitVec 1 := Scalar.cmpi .sge arg6_r0 c0_i32_79_r0
  let v118_r0 : BitVec 1 := Scalar.andi v116_r0 v117_r0
  let v119_r0 : BitVec 32 := Scalar.extui v118_r0
  let c0_i32_80_r0 : BitVec 32 := 0#32
  let v120_r0 : BitVec 1 := Scalar.cmpi .ne v119_r0 c0_i32_80_r0
  v120_r0

def k0_off8 (i : grid0.Coords) (arg11_r0 : BitVec 32) : Fin 2 → Nat :=
  let c0_i32_108_r0 : BitVec 32 := 0#32
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let v164_r0 : BitVec 32 := Scalar.muli c128_i32_r0 v80_r0
  ![0, v164_r0.toNat]
def k0_off9 (arg8_r0 : BitVec 32) : Fin 1 → Nat :=
  let c2_i32_105_r0 : BitVec 32 := 2#32
  let v165_r0 : BitVec 32 := Scalar.remui arg8_r0 c2_i32_105_r0
  ![v165_r0.toNat]
@[reducible] def k0_t2_loop : Scf.Loop 32 :=
  let c0_i32_85_r0 : BitVec 32 := 0#32
  let c8_i32_86_r0 : BitVec 32 := 8#32
  let v129_r0 : BitVec 32 := Scalar.addi c0_i32_85_r0 c8_i32_86_r0
  let c1_i32_87_r0 : BitVec 32 := 1#32
  ⟨c0_i32_85_r0, v129_r0, c1_i32_87_r0⟩
def k0_off10 (arg8_r0 : BitVec 32) : Fin 3 → Nat :=
  let c2_i32_83_r0 : BitVec 32 := 2#32
  let v127_r0 : BitVec 32 := Scalar.remui arg8_r0 c2_i32_83_r0
  let c0_i32_106_r0 : BitVec 32 := 0#32
  let c0_i32_107_r0 : BitVec 32 := 0#32
  ![v127_r0.toNat, 0, 0]

def k0_chk2 (i : grid0.Coords) (k0_t1 : Fin (k0_t1_loop i).trips) (arg8_r0 : BitVec 32) : Prop :=
  (∀ (k0_h1 : k0_cond1 i = 1#1), ∀ a, (k0_off10 arg8_r0) a + S1x1x128.size a ≤ S2x1x128.size a)
theorem k0_off10_inb : ∀ (i : grid0.Coords) (k0_t1 : Fin (k0_t1_loop i).trips) (arg8_r0 : BitVec 32) (k0_hw2 : k0_chk2 i k0_t1 arg8_r0), ∀ (k0_h1 : k0_cond1 i = 1#1), ∀ a, (k0_off10 arg8_r0) a + S1x1x128.size a ≤ S2x1x128.size a := fun i k0_t1 arg8_r0 k0_hw2 k0_h1 => k0_hw2 k0_h1

def k0_off11 (k0_t2 : Fin k0_t2_loop.trips) : Fin 2 → Nat :=
  let c0_r0 : Index := 0#32
  let c0_i32_105_r0 : BitVec 32 := 0#32
  let c0_i32_85_r0 : BitVec 32 := 0#32
  let c1_i32_87_r0 : BitVec 32 := 1#32
  let arg12_r0 : BitVec 32 := Scf.iv c0_i32_85_r0 c1_i32_87_r0 k0_t2
  let c16_i32_r0 : BitVec 32 := 16#32
  let v164_r0 : BitVec 32 := Scalar.muli arg12_r0 c16_i32_r0
  let v165_r0 : BitVec 32 := Scalar.addi c0_i32_105_r0 v164_r0
  let v168_r0 : Index := Scalar.indexCast v165_r0
  ![0, v168_r0.toNat]
def k0_off12 (arg9_r0 : BitVec 32) : Fin 3 → Nat :=
  let c2_i32_84_r0 : BitVec 32 := 2#32
  let v128_r0 : BitVec 32 := Scalar.remui arg9_r0 c2_i32_84_r0
  let c0_i32_105_r1 : BitVec 32 := 0#32
  let c0_i32_106_r1 : BitVec 32 := 0#32
  ![v128_r0.toNat, 0, 0]

def k0_chk3 (i : grid0.Coords) (k0_t1 : Fin (k0_t1_loop i).trips) (arg9_r0 : BitVec 32) : Prop :=
  (∀ (k0_h1 : k0_cond1 i = 1#1), ∀ a, (k0_off12 arg9_r0) a + S1x128x128.size a ≤ S2x128x128.size a)
theorem k0_off12_inb : ∀ (i : grid0.Coords) (k0_t1 : Fin (k0_t1_loop i).trips) (arg9_r0 : BitVec 32) (k0_hw3 : k0_chk3 i k0_t1 arg9_r0), ∀ (k0_h1 : k0_cond1 i = 1#1), ∀ a, (k0_off12 arg9_r0) a + S1x128x128.size a ≤ S2x128x128.size a := fun i k0_t1 arg9_r0 k0_hw3 k0_h1 => k0_hw3 k0_h1

def k0_off13 (arg9_r0 : BitVec 32) : Fin 3 → Nat :=
  let c2_i32_105_r0 : BitVec 32 := 2#32
  let v164_r0 : BitVec 32 := Scalar.remui arg9_r0 c2_i32_105_r0
  let c0_i32_106_r0 : BitVec 32 := 0#32
  let c0_i32_107_r0 : BitVec 32 := 0#32
  ![v164_r0.toNat, 0, 0]
def k0_cond7 (i : grid0.Coords) (k0_t1 : Fin (k0_t1_loop i).trips) (arg11_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let true_65_r0 : BitVec 1 := 1#1
  let c1_i32_64_r0 : BitVec 32 := 1#32
  let v87_r0 : BitVec 32 := Scalar.addi arg11_r0 c1_i32_64_r0
  let v88_r0 : BitVec 32 := Scalar.select true_65_r0 v87_r0 arg11_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v135_r0 : BitVec 1 := Scalar.cmpi .ne v80_r0 v91_r0
  let c0_i32_29_r0 : BitVec 32 := 0#32
  let c1_i32_35_r0 : BitVec 32 := 1#32
  let arg6_r0 : BitVec 32 := Scf.iv c0_i32_29_r0 c1_i32_35_r0 k0_t1
  let c1_i32_57_r0 : BitVec 32 := 1#32
  let v76_r0 : BitVec 32 := Scalar.muli c1_i32_57_r0 v1
  let c1_i32_59_r0 : BitVec 32 := 1#32
  let v78_r0 : BitVec 32 := Scalar.subi v76_r0 c1_i32_59_r0
  let v79_r0 : BitVec 1 := Scalar.cmpi .eq arg6_r0 v78_r0
  let v136_r0 : BitVec 1 := Scalar.ori v135_r0 v79_r0
  let v137_r0 : BitVec 32 := Scalar.extui v136_r0
  let c0_i32_91_r0 : BitVec 32 := 0#32
  let v138_r0 : BitVec 1 := Scalar.cmpi .ne v137_r0 c0_i32_91_r0
  v138_r0

def k0_off14 (i : grid0.Coords) (arg11_r0 : BitVec 32) : Fin 2 → Nat :=
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let v165_r0 : BitVec 32 := Scalar.muli c128_i32_r0 v80_r0
  let c0_i32_108_r0 : BitVec 32 := 0#32
  ![v165_r0.toNat, 0]
def k0_off15 (arg9_r0 : BitVec 32) : Fin 1 → Nat :=
  let c2_i32_105_r0 : BitVec 32 := 2#32
  let v164_r0 : BitVec 32 := Scalar.remui arg9_r0 c2_i32_105_r0
  ![v164_r0.toNat]
def k0_off16 (arg10_r0 : BitVec 32) : Fin 3 → Nat :=
  let c2_i32_105_r0 : BitVec 32 := 2#32
  let v164_r0 : BitVec 32 := Scalar.remui arg10_r0 c2_i32_105_r0
  let c0_i32_106_r0 : BitVec 32 := 0#32
  let c0_i32_107_r0 : BitVec 32 := 0#32
  ![v164_r0.toNat, 0, 0]
def k0_cond9 (i : grid0.Coords) (k0_t1 : Fin (k0_t1_loop i).trips) (arg11_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let true_61_r0 : BitVec 1 := 1#1
  let c1_i32_60_r0 : BitVec 32 := 1#32
  let v81_r0 : BitVec 32 := Scalar.subi arg11_r0 c1_i32_60_r0
  let v82_r0 : BitVec 32 := Scalar.select true_61_r0 v81_r0 arg11_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v148_r0 : BitVec 1 := Scalar.cmpi .ne v80_r0 v86_r0
  let c0_i32_29_r0 : BitVec 32 := 0#32
  let c1_i32_35_r0 : BitVec 32 := 1#32
  let arg6_r0 : BitVec 32 := Scf.iv c0_i32_29_r0 c1_i32_35_r0 k0_t1
  let c0_i32_58_r0 : BitVec 32 := 0#32
  let v77_r0 : BitVec 1 := Scalar.cmpi .eq arg6_r0 c0_i32_58_r0
  let true_97_r0 : BitVec 1 := 1#1
  let v149_r0 : BitVec 1 := Scalar.xori v77_r0 true_97_r0
  let v150_r0 : BitVec 1 := Scalar.andi v148_r0 v149_r0
  let v151_r0 : BitVec 32 := Scalar.extui v150_r0
  let c0_i32_98_r0 : BitVec 32 := 0#32
  let v152_r0 : BitVec 1 := Scalar.cmpi .ne v151_r0 c0_i32_98_r0
  v152_r0

def k0_off17 (i : grid0.Coords) (arg11_r0 : BitVec 32) : Fin 2 → Nat :=
  let c128_i32_r0 : BitVec 32 := 128#32
  let true_61_r0 : BitVec 1 := 1#1
  let c1_i32_60_r0 : BitVec 32 := 1#32
  let v81_r0 : BitVec 32 := Scalar.subi arg11_r0 c1_i32_60_r0
  let v82_r0 : BitVec 32 := Scalar.select true_61_r0 v81_r0 arg11_r0
  let c_m1_i32_62_r0 : BitVec 32 := 4294967295#32
  let v83_r0 : BitVec 1 := Scalar.cmpi .eq v82_r0 c_m1_i32_62_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_63_r0 : BitVec 32 := 1#32
  let v84_r0 : BitVec 32 := Scalar.subi v1 c1_i32_63_r0
  let v85_r0 : BitVec 32 := Scalar.select v83_r0 v84_r0 v82_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v86_r0 : BitVec 32 := Scalar.addi v85_r0 v6
  let v165_r0 : BitVec 32 := Scalar.muli c128_i32_r0 v86_r0
  let c0_i32_108_r0 : BitVec 32 := 0#32
  ![v165_r0.toNat, 0]
def k0_off18 (arg10_r0 : BitVec 32) : Fin 1 → Nat :=
  let c2_i32_105_r0 : BitVec 32 := 2#32
  let v164_r0 : BitVec 32 := Scalar.remui arg10_r0 c2_i32_105_r0
  ![v164_r0.toNat]

def k0_chk1 (i : grid0.Coords) (k0_t1 : Fin (k0_t1_loop i).trips) (arg7_r0 : BitVec 32) (arg8_r0 : BitVec 32) (arg9_r0 : BitVec 32) (arg10_r0 : BitVec 32) (arg11_r0 : BitVec 32) : Prop :=
  (∀ (k0_h1 : k0_cond1 i = 1#1), ∀ (k0_h3 : k0_cond3 i k0_t1 arg11_r0 = 1#1), ∀ a, (k0_off4 arg7_r0) a + S1x1x128.size a ≤ S2x1x128.size a) ∧
  (∀ (k0_h1 : k0_cond1 i = 1#1), ∀ (k0_h3 : k0_cond3 i k0_t1 arg11_r0 = 1#1), ∀ a, (k0_off5 i arg11_r0) a + S1x128.size a ≤ S1x1024.size a) ∧
  (∀ (k0_h1 : k0_cond1 i = 1#1), ∀ (k0_h3 : k0_cond3 i k0_t1 arg11_r0 = 1#1), ∀ a, (k0_off6 arg7_r0) a + S1.size a ≤ S2.size a) ∧
  (∀ (k0_h1 : k0_cond1 i = 1#1), ∀ (k0_h4 : k0_cond4 i k0_t1 arg11_r0 = 1#1), ∀ a, (k0_off7 arg8_r0) a + S1x1x128.size a ≤ S2x1x128.size a) ∧
  (∀ (k0_h1 : k0_cond1 i = 1#1), ∀ (k0_h4 : k0_cond4 i k0_t1 arg11_r0 = 1#1), ∀ a, (k0_off8 i arg11_r0) a + S1x128.size a ≤ S1x1024.size a) ∧
  (∀ (k0_h1 : k0_cond1 i = 1#1), ∀ (k0_h4 : k0_cond4 i k0_t1 arg11_r0 = 1#1), ∀ a, (k0_off9 arg8_r0) a + S1.size a ≤ S2.size a) ∧
  (∀ (k0_h1 : k0_cond1 i = 1#1), ∀ (k0_h7 : k0_cond7 i k0_t1 arg11_r0 = 1#1), ∀ a, (k0_off13 arg9_r0) a + S1x128x128.size a ≤ S2x128x128.size a) ∧
  (∀ (k0_h1 : k0_cond1 i = 1#1), ∀ (k0_h7 : k0_cond7 i k0_t1 arg11_r0 = 1#1), ∀ a, (k0_off14 i arg11_r0) a + S128x128.size a ≤ S1024x128.size a) ∧
  (∀ (k0_h1 : k0_cond1 i = 1#1), ∀ (k0_h7 : k0_cond7 i k0_t1 arg11_r0 = 1#1), ∀ a, (k0_off15 arg9_r0) a + S1.size a ≤ S2.size a) ∧
  (∀ (k0_h1 : k0_cond1 i = 1#1), ∀ (k0_h9 : k0_cond9 i k0_t1 arg11_r0 = 1#1), ∀ a, (k0_off16 arg10_r0) a + S1x128x128.size a ≤ S2x128x128.size a) ∧
  (∀ (k0_h1 : k0_cond1 i = 1#1), ∀ (k0_h9 : k0_cond9 i k0_t1 arg11_r0 = 1#1), ∀ a, (k0_off17 i arg11_r0) a + S128x128.size a ≤ S1024x128.size a) ∧
  (∀ (k0_h1 : k0_cond1 i = 1#1), ∀ (k0_h9 : k0_cond9 i k0_t1 arg11_r0 = 1#1), ∀ a, (k0_off18 arg10_r0) a + S1.size a ≤ S2.size a)
theorem k0_off4_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off4 arg7_r0) a + S1x1x128.size a ≤ S2x1x128.size a := fun i k0_t1 arg7_r0 arg8_r0 arg9_r0 arg10_r0 arg11_r0 k0_hw1 k0_h1 k0_h3 => k0_hw1.1 k0_h1 k0_h3
theorem k0_off5_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off5 i arg11_r0) a + S1x128.size a ≤ S1x1024.size a := fun i k0_t1 arg7_r0 arg8_r0 arg9_r0 arg10_r0 arg11_r0 k0_hw1 k0_h1 k0_h3 => k0_hw1.2.1 k0_h1 k0_h3
theorem k0_off6_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off6 arg7_r0) a + S1.size a ≤ S2.size a := fun i k0_t1 arg7_r0 arg8_r0 arg9_r0 arg10_r0 arg11_r0 k0_hw1 k0_h1 k0_h3 => k0_hw1.2.2.1 k0_h1 k0_h3
theorem k0_off7_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off7 arg8_r0) a + S1x1x128.size a ≤ S2x1x128.size a := fun i k0_t1 arg7_r0 arg8_r0 arg9_r0 arg10_r0 arg11_r0 k0_hw1 k0_h1 k0_h4 => k0_hw1.2.2.2.1 k0_h1 k0_h4
theorem k0_off8_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off8 i arg11_r0) a + S1x128.size a ≤ S1x1024.size a := fun i k0_t1 arg7_r0 arg8_r0 arg9_r0 arg10_r0 arg11_r0 k0_hw1 k0_h1 k0_h4 => k0_hw1.2.2.2.2.1 k0_h1 k0_h4
theorem k0_off9_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off9 arg8_r0) a + S1.size a ≤ S2.size a := fun i k0_t1 arg7_r0 arg8_r0 arg9_r0 arg10_r0 arg11_r0 k0_hw1 k0_h1 k0_h4 => k0_hw1.2.2.2.2.2.1 k0_h1 k0_h4
theorem k0_off13_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off13 arg9_r0) a + S1x128x128.size a ≤ S2x128x128.size a := fun i k0_t1 arg7_r0 arg8_r0 arg9_r0 arg10_r0 arg11_r0 k0_hw1 k0_h1 k0_h7 => k0_hw1.2.2.2.2.2.2.1 k0_h1 k0_h7
theorem k0_off14_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off14 i arg11_r0) a + S128x128.size a ≤ S1024x128.size a := fun i k0_t1 arg7_r0 arg8_r0 arg9_r0 arg10_r0 arg11_r0 k0_hw1 k0_h1 k0_h7 => k0_hw1.2.2.2.2.2.2.2.1 k0_h1 k0_h7
theorem k0_off15_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off15 arg9_r0) a + S1.size a ≤ S2.size a := fun i k0_t1 arg7_r0 arg8_r0 arg9_r0 arg10_r0 arg11_r0 k0_hw1 k0_h1 k0_h7 => k0_hw1.2.2.2.2.2.2.2.2.1 k0_h1 k0_h7
theorem k0_off16_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off16 arg10_r0) a + S1x128x128.size a ≤ S2x128x128.size a := fun i k0_t1 arg7_r0 arg8_r0 arg9_r0 arg10_r0 arg11_r0 k0_hw1 k0_h1 k0_h9 => k0_hw1.2.2.2.2.2.2.2.2.2.1 k0_h1 k0_h9
theorem k0_off17_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off17 i arg11_r0) a + S128x128.size a ≤ S1024x128.size a := fun i k0_t1 arg7_r0 arg8_r0 arg9_r0 arg10_r0 arg11_r0 k0_hw1 k0_h1 k0_h9 => k0_hw1.2.2.2.2.2.2.2.2.2.2.1 k0_h1 k0_h9
theorem k0_off18_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off18 arg10_r0) a + S1.size a ≤ S2.size a := fun i k0_t1 arg7_r0 arg8_r0 arg9_r0 arg10_r0 arg11_r0 k0_hw1 k0_h1 k0_h9 => k0_hw1.2.2.2.2.2.2.2.2.2.2.2 k0_h1 k0_h9

@[reducible] def k0_t3_loop (i : grid0.Coords) : Scf.Loop 32 :=
  let c0_i32_29_r0 : BitVec 32 := 0#32
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let v39_r0 : BitVec 32 := Scalar.addi c0_i32_29_r0 v38_r0
  let c1_i32_36_r0 : BitVec 32 := 1#32
  ⟨v42_r0, v39_r0, c1_i32_36_r0⟩
def k0_off19 (arg7_r0 : BitVec 32) : Fin 3 → Nat :=
  let c2_i32_105_r0 : BitVec 32 := 2#32
  let v164_r0 : BitVec 32 := Scalar.remui arg7_r0 c2_i32_105_r0
  let c0_i32_106_r0 : BitVec 32 := 0#32
  let c0_i32_107_r0 : BitVec 32 := 0#32
  ![v164_r0.toNat, 0, 0]
def k0_cond10 (i : grid0.Coords) (k0_t3 : Fin (k0_t3_loop i).trips) (arg11_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let true_65_r0 : BitVec 1 := 1#1
  let c1_i32_64_r0 : BitVec 32 := 1#32
  let v87_r0 : BitVec 32 := Scalar.addi arg11_r0 c1_i32_64_r0
  let v88_r0 : BitVec 32 := Scalar.select true_65_r0 v87_r0 arg11_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v97_r0 : BitVec 1 := Scalar.cmpi .ne v80_r0 v91_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg6_r0 : BitVec 32 := Scf.iv v42_r0 c1_i32_36_r0 k0_t3
  let c1_i32_57_r0 : BitVec 32 := 1#32
  let v76_r0 : BitVec 32 := Scalar.muli c1_i32_57_r0 v1
  let c2_i32_r0 : BitVec 32 := 2#32
  let v98_r0 : BitVec 32 := Scalar.subi v76_r0 c2_i32_r0
  let c1_i32_70_r0 : BitVec 32 := 1#32
  let v99_r0 : BitVec 32 := Scalar.addi v98_r0 c1_i32_70_r0
  let v100_r0 : BitVec 1 := Scalar.cmpi .sge arg6_r0 v99_r0
  let true_71_r0 : BitVec 1 := 1#1
  let v101_r0 : BitVec 1 := Scalar.xori v100_r0 true_71_r0
  let v102_r0 : BitVec 1 := Scalar.andi v97_r0 v101_r0
  let true_72_r0 : BitVec 1 := 1#1
  let v103_r0 : BitVec 1 := Scalar.andi v102_r0 true_72_r0
  let v104_r0 : BitVec 32 := Scalar.extui v103_r0
  let c0_i32_73_r0 : BitVec 32 := 0#32
  let v105_r0 : BitVec 1 := Scalar.cmpi .ne v104_r0 c0_i32_73_r0
  v105_r0

def k0_off20 (i : grid0.Coords) (arg11_r0 : BitVec 32) : Fin 2 → Nat :=
  let c0_i32_108_r0 : BitVec 32 := 0#32
  let c128_i32_r0 : BitVec 32 := 128#32
  let true_65_r0 : BitVec 1 := 1#1
  let c1_i32_64_r0 : BitVec 32 := 1#32
  let v87_r0 : BitVec 32 := Scalar.addi arg11_r0 c1_i32_64_r0
  let v88_r0 : BitVec 32 := Scalar.select true_65_r0 v87_r0 arg11_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v89_r0 : BitVec 1 := Scalar.cmpi .eq v88_r0 v1
  let c0_i32_66_r0 : BitVec 32 := 0#32
  let v90_r0 : BitVec 32 := Scalar.select v89_r0 c0_i32_66_r0 v88_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v91_r0 : BitVec 32 := Scalar.addi v90_r0 v6
  let v165_r0 : BitVec 32 := Scalar.muli c128_i32_r0 v91_r0
  ![0, v165_r0.toNat]
def k0_off21 (arg7_r0 : BitVec 32) : Fin 1 → Nat :=
  let c2_i32_105_r0 : BitVec 32 := 2#32
  let v164_r0 : BitVec 32 := Scalar.remui arg7_r0 c2_i32_105_r0
  ![v164_r0.toNat]
def k0_off22 (arg8_r0 : BitVec 32) : Fin 3 → Nat :=
  let c2_i32_105_r0 : BitVec 32 := 2#32
  let v165_r0 : BitVec 32 := Scalar.remui arg8_r0 c2_i32_105_r0
  let c0_i32_106_r0 : BitVec 32 := 0#32
  let c0_i32_107_r0 : BitVec 32 := 0#32
  ![v165_r0.toNat, 0, 0]
def k0_cond11 (i : grid0.Coords) (k0_t3 : Fin (k0_t3_loop i).trips) (arg11_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let true_61_r0 : BitVec 1 := 1#1
  let c1_i32_60_r0 : BitVec 32 := 1#32
  let v81_r0 : BitVec 32 := Scalar.subi arg11_r0 c1_i32_60_r0
  let v82_r0 : BitVec 32 := Scalar.select true_61_r0 v81_r0 arg11_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v115_r0 : BitVec 1 := Scalar.cmpi .ne v80_r0 v86_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg6_r0 : BitVec 32 := Scf.iv v42_r0 c1_i32_36_r0 k0_t3
  let c0_i32_58_r0 : BitVec 32 := 0#32
  let v77_r0 : BitVec 1 := Scalar.cmpi .eq arg6_r0 c0_i32_58_r0
  let v116_r0 : BitVec 1 := Scalar.ori v115_r0 v77_r0
  let c0_i32_79_r0 : BitVec 32 := 0#32
  let v117_r0 : BitVec 1 := Scalar.cmpi .sge arg6_r0 c0_i32_79_r0
  let v118_r0 : BitVec 1 := Scalar.andi v116_r0 v117_r0
  let v119_r0 : BitVec 32 := Scalar.extui v118_r0
  let c0_i32_80_r0 : BitVec 32 := 0#32
  let v120_r0 : BitVec 1 := Scalar.cmpi .ne v119_r0 c0_i32_80_r0
  v120_r0

def k0_off23 (i : grid0.Coords) (arg11_r0 : BitVec 32) : Fin 2 → Nat :=
  let c0_i32_108_r0 : BitVec 32 := 0#32
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let v164_r0 : BitVec 32 := Scalar.muli c128_i32_r0 v80_r0
  ![0, v164_r0.toNat]
def k0_off24 (arg8_r0 : BitVec 32) : Fin 1 → Nat :=
  let c2_i32_105_r0 : BitVec 32 := 2#32
  let v165_r0 : BitVec 32 := Scalar.remui arg8_r0 c2_i32_105_r0
  ![v165_r0.toNat]
@[reducible] def k0_t4_loop : Scf.Loop 32 :=
  let c0_i32_85_r0 : BitVec 32 := 0#32
  let c8_i32_86_r0 : BitVec 32 := 8#32
  let v129_r0 : BitVec 32 := Scalar.addi c0_i32_85_r0 c8_i32_86_r0
  let c1_i32_87_r0 : BitVec 32 := 1#32
  ⟨c0_i32_85_r0, v129_r0, c1_i32_87_r0⟩
def k0_off25 (arg8_r0 : BitVec 32) : Fin 3 → Nat :=
  let c2_i32_83_r0 : BitVec 32 := 2#32
  let v127_r0 : BitVec 32 := Scalar.remui arg8_r0 c2_i32_83_r0
  let c0_i32_106_r0 : BitVec 32 := 0#32
  let c0_i32_107_r0 : BitVec 32 := 0#32
  ![v127_r0.toNat, 0, 0]

def k0_chk5 (i : grid0.Coords) (k0_t3 : Fin (k0_t3_loop i).trips) (arg8_r0 : BitVec 32) : Prop :=
  (∀ (k0_h1 : k0_cond1 i = 1#1), ∀ a, (k0_off25 arg8_r0) a + S1x1x128.size a ≤ S2x1x128.size a)
theorem k0_off25_inb : ∀ (i : grid0.Coords) (k0_t3 : Fin (k0_t3_loop i).trips) (arg8_r0 : BitVec 32) (k0_hw5 : k0_chk5 i k0_t3 arg8_r0), ∀ (k0_h1 : k0_cond1 i = 1#1), ∀ a, (k0_off25 arg8_r0) a + S1x1x128.size a ≤ S2x1x128.size a := fun i k0_t3 arg8_r0 k0_hw5 k0_h1 => k0_hw5 k0_h1

def k0_off26 (k0_t4 : Fin k0_t4_loop.trips) : Fin 2 → Nat :=
  let c0_r0 : Index := 0#32
  let c0_i32_105_r0 : BitVec 32 := 0#32
  let c0_i32_85_r0 : BitVec 32 := 0#32
  let c1_i32_87_r0 : BitVec 32 := 1#32
  let arg12_r0 : BitVec 32 := Scf.iv c0_i32_85_r0 c1_i32_87_r0 k0_t4
  let c16_i32_r0 : BitVec 32 := 16#32
  let v164_r0 : BitVec 32 := Scalar.muli arg12_r0 c16_i32_r0
  let v165_r0 : BitVec 32 := Scalar.addi c0_i32_105_r0 v164_r0
  let v168_r0 : Index := Scalar.indexCast v165_r0
  ![0, v168_r0.toNat]
def k0_off27 (arg9_r0 : BitVec 32) : Fin 3 → Nat :=
  let c2_i32_84_r0 : BitVec 32 := 2#32
  let v128_r0 : BitVec 32 := Scalar.remui arg9_r0 c2_i32_84_r0
  let c0_i32_105_r2 : BitVec 32 := 0#32
  let c0_i32_106_r2 : BitVec 32 := 0#32
  ![v128_r0.toNat, 0, 0]

def k0_chk6 (i : grid0.Coords) (k0_t3 : Fin (k0_t3_loop i).trips) (arg9_r0 : BitVec 32) : Prop :=
  (∀ (k0_h1 : k0_cond1 i = 1#1), ∀ a, (k0_off27 arg9_r0) a + S1x128x128.size a ≤ S2x128x128.size a)
theorem k0_off27_inb : ∀ (i : grid0.Coords) (k0_t3 : Fin (k0_t3_loop i).trips) (arg9_r0 : BitVec 32) (k0_hw6 : k0_chk6 i k0_t3 arg9_r0), ∀ (k0_h1 : k0_cond1 i = 1#1), ∀ a, (k0_off27 arg9_r0) a + S1x128x128.size a ≤ S2x128x128.size a := fun i k0_t3 arg9_r0 k0_hw6 k0_h1 => k0_hw6 k0_h1

def k0_off28 (arg9_r0 : BitVec 32) : Fin 3 → Nat :=
  let c2_i32_105_r0 : BitVec 32 := 2#32
  let v164_r0 : BitVec 32 := Scalar.remui arg9_r0 c2_i32_105_r0
  let c0_i32_106_r0 : BitVec 32 := 0#32
  let c0_i32_107_r0 : BitVec 32 := 0#32
  ![v164_r0.toNat, 0, 0]
def k0_cond14 (i : grid0.Coords) (k0_t3 : Fin (k0_t3_loop i).trips) (arg11_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let true_65_r0 : BitVec 1 := 1#1
  let c1_i32_64_r0 : BitVec 32 := 1#32
  let v87_r0 : BitVec 32 := Scalar.addi arg11_r0 c1_i32_64_r0
  let v88_r0 : BitVec 32 := Scalar.select true_65_r0 v87_r0 arg11_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v135_r0 : BitVec 1 := Scalar.cmpi .ne v80_r0 v91_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg6_r0 : BitVec 32 := Scf.iv v42_r0 c1_i32_36_r0 k0_t3
  let c1_i32_57_r0 : BitVec 32 := 1#32
  let v76_r0 : BitVec 32 := Scalar.muli c1_i32_57_r0 v1
  let c1_i32_59_r0 : BitVec 32 := 1#32
  let v78_r0 : BitVec 32 := Scalar.subi v76_r0 c1_i32_59_r0
  let v79_r0 : BitVec 1 := Scalar.cmpi .eq arg6_r0 v78_r0
  let v136_r0 : BitVec 1 := Scalar.ori v135_r0 v79_r0
  let v137_r0 : BitVec 32 := Scalar.extui v136_r0
  let c0_i32_91_r0 : BitVec 32 := 0#32
  let v138_r0 : BitVec 1 := Scalar.cmpi .ne v137_r0 c0_i32_91_r0
  v138_r0

def k0_off29 (i : grid0.Coords) (arg11_r0 : BitVec 32) : Fin 2 → Nat :=
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let v165_r0 : BitVec 32 := Scalar.muli c128_i32_r0 v80_r0
  let c0_i32_108_r0 : BitVec 32 := 0#32
  ![v165_r0.toNat, 0]
def k0_off30 (arg9_r0 : BitVec 32) : Fin 1 → Nat :=
  let c2_i32_105_r0 : BitVec 32 := 2#32
  let v164_r0 : BitVec 32 := Scalar.remui arg9_r0 c2_i32_105_r0
  ![v164_r0.toNat]
def k0_off31 (arg10_r0 : BitVec 32) : Fin 3 → Nat :=
  let c2_i32_105_r0 : BitVec 32 := 2#32
  let v164_r0 : BitVec 32 := Scalar.remui arg10_r0 c2_i32_105_r0
  let c0_i32_106_r0 : BitVec 32 := 0#32
  let c0_i32_107_r0 : BitVec 32 := 0#32
  ![v164_r0.toNat, 0, 0]
def k0_cond16 (i : grid0.Coords) (k0_t3 : Fin (k0_t3_loop i).trips) (arg11_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg11_r0 v6
  let true_61_r0 : BitVec 1 := 1#1
  let c1_i32_60_r0 : BitVec 32 := 1#32
  let v81_r0 : BitVec 32 := Scalar.subi arg11_r0 c1_i32_60_r0
  let v82_r0 : BitVec 32 := Scalar.select true_61_r0 v81_r0 arg11_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v148_r0 : BitVec 1 := Scalar.cmpi .ne v80_r0 v86_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg6_r0 : BitVec 32 := Scf.iv v42_r0 c1_i32_36_r0 k0_t3
  let c0_i32_58_r0 : BitVec 32 := 0#32
  let v77_r0 : BitVec 1 := Scalar.cmpi .eq arg6_r0 c0_i32_58_r0
  let true_97_r0 : BitVec 1 := 1#1
  let v149_r0 : BitVec 1 := Scalar.xori v77_r0 true_97_r0
  let v150_r0 : BitVec 1 := Scalar.andi v148_r0 v149_r0
  let v151_r0 : BitVec 32 := Scalar.extui v150_r0
  let c0_i32_98_r0 : BitVec 32 := 0#32
  let v152_r0 : BitVec 1 := Scalar.cmpi .ne v151_r0 c0_i32_98_r0
  v152_r0

def k0_off32 (i : grid0.Coords) (arg11_r0 : BitVec 32) : Fin 2 → Nat :=
  let c128_i32_r0 : BitVec 32 := 128#32
  let true_61_r0 : BitVec 1 := 1#1
  let c1_i32_60_r0 : BitVec 32 := 1#32
  let v81_r0 : BitVec 32 := Scalar.subi arg11_r0 c1_i32_60_r0
  let v82_r0 : BitVec 32 := Scalar.select true_61_r0 v81_r0 arg11_r0
  let c_m1_i32_62_r0 : BitVec 32 := 4294967295#32
  let v83_r0 : BitVec 1 := Scalar.cmpi .eq v82_r0 c_m1_i32_62_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_63_r0 : BitVec 32 := 1#32
  let v84_r0 : BitVec 32 := Scalar.subi v1 c1_i32_63_r0
  let v85_r0 : BitVec 32 := Scalar.select v83_r0 v84_r0 v82_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v86_r0 : BitVec 32 := Scalar.addi v85_r0 v6
  let v165_r0 : BitVec 32 := Scalar.muli c128_i32_r0 v86_r0
  let c0_i32_108_r0 : BitVec 32 := 0#32
  ![v165_r0.toNat, 0]
def k0_off33 (arg10_r0 : BitVec 32) : Fin 1 → Nat :=
  let c2_i32_105_r0 : BitVec 32 := 2#32
  let v164_r0 : BitVec 32 := Scalar.remui arg10_r0 c2_i32_105_r0
  ![v164_r0.toNat]

def k0_chk4 (i : grid0.Coords) (k0_t3 : Fin (k0_t3_loop i).trips) (arg7_r0 : BitVec 32) (arg8_r0 : BitVec 32) (arg9_r0 : BitVec 32) (arg10_r0 : BitVec 32) (arg11_r0 : BitVec 32) : Prop :=
  (∀ (k0_h1 : k0_cond1 i = 1#1), ∀ (k0_h10 : k0_cond10 i k0_t3 arg11_r0 = 1#1), ∀ a, (k0_off19 arg7_r0) a + S1x1x128.size a ≤ S2x1x128.size a) ∧
  (∀ (k0_h1 : k0_cond1 i = 1#1), ∀ (k0_h10 : k0_cond10 i k0_t3 arg11_r0 = 1#1), ∀ a, (k0_off20 i arg11_r0) a + S1x128.size a ≤ S1x1024.size a) ∧
  (∀ (k0_h1 : k0_cond1 i = 1#1), ∀ (k0_h10 : k0_cond10 i k0_t3 arg11_r0 = 1#1), ∀ a, (k0_off21 arg7_r0) a + S1.size a ≤ S2.size a) ∧
  (∀ (k0_h1 : k0_cond1 i = 1#1), ∀ (k0_h11 : k0_cond11 i k0_t3 arg11_r0 = 1#1), ∀ a, (k0_off22 arg8_r0) a + S1x1x128.size a ≤ S2x1x128.size a) ∧
  (∀ (k0_h1 : k0_cond1 i = 1#1), ∀ (k0_h11 : k0_cond11 i k0_t3 arg11_r0 = 1#1), ∀ a, (k0_off23 i arg11_r0) a + S1x128.size a ≤ S1x1024.size a) ∧
  (∀ (k0_h1 : k0_cond1 i = 1#1), ∀ (k0_h11 : k0_cond11 i k0_t3 arg11_r0 = 1#1), ∀ a, (k0_off24 arg8_r0) a + S1.size a ≤ S2.size a) ∧
  (∀ (k0_h1 : k0_cond1 i = 1#1), ∀ (k0_h14 : k0_cond14 i k0_t3 arg11_r0 = 1#1), ∀ a, (k0_off28 arg9_r0) a + S1x128x128.size a ≤ S2x128x128.size a) ∧
  (∀ (k0_h1 : k0_cond1 i = 1#1), ∀ (k0_h14 : k0_cond14 i k0_t3 arg11_r0 = 1#1), ∀ a, (k0_off29 i arg11_r0) a + S128x128.size a ≤ S1024x128.size a) ∧
  (∀ (k0_h1 : k0_cond1 i = 1#1), ∀ (k0_h14 : k0_cond14 i k0_t3 arg11_r0 = 1#1), ∀ a, (k0_off30 arg9_r0) a + S1.size a ≤ S2.size a) ∧
  (∀ (k0_h1 : k0_cond1 i = 1#1), ∀ (k0_h16 : k0_cond16 i k0_t3 arg11_r0 = 1#1), ∀ a, (k0_off31 arg10_r0) a + S1x128x128.size a ≤ S2x128x128.size a) ∧
  (∀ (k0_h1 : k0_cond1 i = 1#1), ∀ (k0_h16 : k0_cond16 i k0_t3 arg11_r0 = 1#1), ∀ a, (k0_off32 i arg11_r0) a + S128x128.size a ≤ S1024x128.size a) ∧
  (∀ (k0_h1 : k0_cond1 i = 1#1), ∀ (k0_h16 : k0_cond16 i k0_t3 arg11_r0 = 1#1), ∀ a, (k0_off33 arg10_r0) a + S1.size a ≤ S2.size a)
theorem k0_off19_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h10 : k0_cond10 i k0_t3 arg11_r0 = 1#1), ∀ a, (k0_off19 arg7_r0) a + S1x1x128.size a ≤ S2x1x128.size a := fun i k0_t3 arg7_r0 arg8_r0 arg9_r0 arg10_r0 arg11_r0 k0_hw4 k0_h1 k0_h10 => k0_hw4.1 k0_h1 k0_h10
theorem k0_off20_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h10 : k0_cond10 i k0_t3 arg11_r0 = 1#1), ∀ a, (k0_off20 i arg11_r0) a + S1x128.size a ≤ S1x1024.size a := fun i k0_t3 arg7_r0 arg8_r0 arg9_r0 arg10_r0 arg11_r0 k0_hw4 k0_h1 k0_h10 => k0_hw4.2.1 k0_h1 k0_h10
theorem k0_off21_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h10 : k0_cond10 i k0_t3 arg11_r0 = 1#1), ∀ a, (k0_off21 arg7_r0) a + S1.size a ≤ S2.size a := fun i k0_t3 arg7_r0 arg8_r0 arg9_r0 arg10_r0 arg11_r0 k0_hw4 k0_h1 k0_h10 => k0_hw4.2.2.1 k0_h1 k0_h10
theorem k0_off22_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h11 : k0_cond11 i k0_t3 arg11_r0 = 1#1), ∀ a, (k0_off22 arg8_r0) a + S1x1x128.size a ≤ S2x1x128.size a := fun i k0_t3 arg7_r0 arg8_r0 arg9_r0 arg10_r0 arg11_r0 k0_hw4 k0_h1 k0_h11 => k0_hw4.2.2.2.1 k0_h1 k0_h11
theorem k0_off23_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h11 : k0_cond11 i k0_t3 arg11_r0 = 1#1), ∀ a, (k0_off23 i arg11_r0) a + S1x128.size a ≤ S1x1024.size a := fun i k0_t3 arg7_r0 arg8_r0 arg9_r0 arg10_r0 arg11_r0 k0_hw4 k0_h1 k0_h11 => k0_hw4.2.2.2.2.1 k0_h1 k0_h11
theorem k0_off24_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h11 : k0_cond11 i k0_t3 arg11_r0 = 1#1), ∀ a, (k0_off24 arg8_r0) a + S1.size a ≤ S2.size a := fun i k0_t3 arg7_r0 arg8_r0 arg9_r0 arg10_r0 arg11_r0 k0_hw4 k0_h1 k0_h11 => k0_hw4.2.2.2.2.2.1 k0_h1 k0_h11
theorem k0_off28_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h14 : k0_cond14 i k0_t3 arg11_r0 = 1#1), ∀ a, (k0_off28 arg9_r0) a + S1x128x128.size a ≤ S2x128x128.size a := fun i k0_t3 arg7_r0 arg8_r0 arg9_r0 arg10_r0 arg11_r0 k0_hw4 k0_h1 k0_h14 => k0_hw4.2.2.2.2.2.2.1 k0_h1 k0_h14
theorem k0_off29_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h14 : k0_cond14 i k0_t3 arg11_r0 = 1#1), ∀ a, (k0_off29 i arg11_r0) a + S128x128.size a ≤ S1024x128.size a := fun i k0_t3 arg7_r0 arg8_r0 arg9_r0 arg10_r0 arg11_r0 k0_hw4 k0_h1 k0_h14 => k0_hw4.2.2.2.2.2.2.2.1 k0_h1 k0_h14
theorem k0_off30_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h14 : k0_cond14 i k0_t3 arg11_r0 = 1#1), ∀ a, (k0_off30 arg9_r0) a + S1.size a ≤ S2.size a := fun i k0_t3 arg7_r0 arg8_r0 arg9_r0 arg10_r0 arg11_r0 k0_hw4 k0_h1 k0_h14 => k0_hw4.2.2.2.2.2.2.2.2.1 k0_h1 k0_h14
theorem k0_off31_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h16 : k0_cond16 i k0_t3 arg11_r0 = 1#1), ∀ a, (k0_off31 arg10_r0) a + S1x128x128.size a ≤ S2x128x128.size a := fun i k0_t3 arg7_r0 arg8_r0 arg9_r0 arg10_r0 arg11_r0 k0_hw4 k0_h1 k0_h16 => k0_hw4.2.2.2.2.2.2.2.2.2.1 k0_h1 k0_h16
theorem k0_off32_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h16 : k0_cond16 i k0_t3 arg11_r0 = 1#1), ∀ a, (k0_off32 i arg11_r0) a + S128x128.size a ≤ S1024x128.size a := fun i k0_t3 arg7_r0 arg8_r0 arg9_r0 arg10_r0 arg11_r0 k0_hw4 k0_h1 k0_h16 => k0_hw4.2.2.2.2.2.2.2.2.2.2.1 k0_h1 k0_h16
theorem k0_off33_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h16 : k0_cond16 i k0_t3 arg11_r0 = 1#1), ∀ a, (k0_off33 arg10_r0) a + S1.size a ≤ S2.size a := fun i k0_t3 arg7_r0 arg8_r0 arg9_r0 arg10_r0 arg11_r0 k0_hw4 k0_h1 k0_h16 => k0_hw4.2.2.2.2.2.2.2.2.2.2.2 k0_h1 k0_h16

def k0_cond18 (i : grid0.Coords) : BitVec 1 :=
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let c1_i32_41_r0 : BitVec 32 := 1#32
  let v50_r0 : BitVec 32 := Scalar.subi v7 c1_i32_41_r0
  let c1_i32_42_r0 : BitVec 32 := 1#32
  let v51_r0 : BitVec 32 := Scalar.muli c1_i32_42_r0 v1
  let c1_i32_44_r0 : BitVec 32 := 1#32
  let v53_r0 : BitVec 32 := Scalar.subi v51_r0 c1_i32_44_r0
  let v54_r0 : BitVec 1 := Scalar.cmpi .eq v50_r0 v53_r0
  let v74_r0 : BitVec 32 := Scalar.extui v54_r0
  let c0_i32_56_r0 : BitVec 32 := 0#32
  let v75_r0 : BitVec 1 := Scalar.cmpi .ne v74_r0 c0_i32_56_r0
  v75_r0

def k0_off34 (v44_3_r0 : BitVec 32) : Fin 3 → Nat :=
  let c2_i32_r0 : BitVec 32 := 2#32
  let v76_r0 : BitVec 32 := Scalar.remui v44_3_r0 c2_i32_r0
  let c0_i32_57_r0 : BitVec 32 := 0#32
  let c0_i32_58_r0 : BitVec 32 := 0#32
  ![v76_r0.toNat, 0, 0]

def k0_off35 (i : grid0.Coords) (v44_4_r0 : BitVec 32) : Fin 2 → Nat :=
  let c128_i32_r0 : BitVec 32 := 128#32
  let true_38_r0 : BitVec 1 := 1#1
  let c1_i32_37_r0 : BitVec 32 := 1#32
  let v45_r0 : BitVec 32 := Scalar.subi v44_4_r0 c1_i32_37_r0
  let v46_r0 : BitVec 32 := Scalar.select true_38_r0 v45_r0 v44_4_r0
  let c_m1_i32_39_r0 : BitVec 32 := 4294967295#32
  let v47_r0 : BitVec 1 := Scalar.cmpi .eq v46_r0 c_m1_i32_39_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_40_r0 : BitVec 32 := 1#32
  let v48_r0 : BitVec 32 := Scalar.subi v1 c1_i32_40_r0
  let v49_r0 : BitVec 32 := Scalar.select v47_r0 v48_r0 v46_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v55_r0 : BitVec 32 := Scalar.addi v49_r0 v6
  let v77_r0 : BitVec 32 := Scalar.muli c128_i32_r0 v55_r0
  let c0_i32_59_r0 : BitVec 32 := 0#32
  ![v77_r0.toNat, 0]

def k0_chk8 (i : grid0.Coords) (v44_4_r0 : BitVec 32) : Prop :=
  (∀ (k0_h1 : k0_cond1 i = 1#1), ∀ (k0_h18 : k0_cond18 i = 1#1), ∀ a, (k0_off35 i v44_4_r0) a + S128x128.size a ≤ S1024x128.size a)
theorem k0_off35_inb : ∀ (i : grid0.Coords) (v44_4_r0 : BitVec 32) (k0_hw8 : k0_chk8 i v44_4_r0), ∀ (k0_h1 : k0_cond1 i = 1#1), ∀ (k0_h18 : k0_cond18 i = 1#1), ∀ a, (k0_off35 i v44_4_r0) a + S128x128.size a ≤ S1024x128.size a := fun i v44_4_r0 k0_hw8 k0_h1 k0_h18 => k0_hw8 k0_h1 k0_h18

def k0_off36 (v44_3_r0 : BitVec 32) : Fin 1 → Nat :=
  let c2_i32_r0 : BitVec 32 := 2#32
  let v76_r0 : BitVec 32 := Scalar.remui v44_3_r0 c2_i32_r0
  ![v76_r0.toNat]
def k0_off37 (v44_3_r0 : BitVec 32) : Fin 3 → Nat :=
  let c2_i32_r0 : BitVec 32 := 2#32
  let v76_r0 : BitVec 32 := Scalar.remui v44_3_r0 c2_i32_r0
  let c0_i32_61_r0 : BitVec 32 := 0#32
  let c0_i32_62_r0 : BitVec 32 := 0#32
  ![v76_r0.toNat, 0, 0]

def k0_chk7 (i : grid0.Coords) (v44_3_r0 : BitVec 32) : Prop :=
  (∀ (k0_h1 : k0_cond1 i = 1#1), ∀ (k0_h18 : k0_cond18 i = 1#1), ∀ a, (k0_off34 v44_3_r0) a + S1x128x128.size a ≤ S2x128x128.size a) ∧
  (∀ (k0_h1 : k0_cond1 i = 1#1), ∀ (k0_h18 : k0_cond18 i = 1#1), ∀ a, (k0_off36 v44_3_r0) a + S1.size a ≤ S2.size a) ∧
  (∀ (k0_h1 : k0_cond1 i = 1#1), ∀ (k0_h18 : k0_cond18 i = 1#1), ∀ a, (k0_off37 v44_3_r0) a + S1x128x128.size a ≤ S2x128x128.size a)
theorem k0_off34_inb : ∀ (i : grid0.Coords) (v44_3_r0 : BitVec 32) (k0_hw7 : k0_chk7 i v44_3_r0), ∀ (k0_h1 : k0_cond1 i = 1#1), ∀ (k0_h18 : k0_cond18 i = 1#1), ∀ a, (k0_off34 v44_3_r0) a + S1x128x128.size a ≤ S2x128x128.size a := fun i v44_3_r0 k0_hw7 k0_h1 k0_h18 => k0_hw7.1 k0_h1 k0_h18
theorem k0_off36_inb : ∀ (i : grid0.Coords) (v44_3_r0 : BitVec 32) (k0_hw7 : k0_chk7 i v44_3_r0), ∀ (k0_h1 : k0_cond1 i = 1#1), ∀ (k0_h18 : k0_cond18 i = 1#1), ∀ a, (k0_off36 v44_3_r0) a + S1.size a ≤ S2.size a := fun i v44_3_r0 k0_hw7 k0_h1 k0_h18 => k0_hw7.2.1 k0_h1 k0_h18
theorem k0_off37_inb : ∀ (i : grid0.Coords) (v44_3_r0 : BitVec 32) (k0_hw7 : k0_chk7 i v44_3_r0), ∀ (k0_h1 : k0_cond1 i = 1#1), ∀ (k0_h18 : k0_cond18 i = 1#1), ∀ a, (k0_off37 v44_3_r0) a + S1x128x128.size a ≤ S2x128x128.size a := fun i v44_3_r0 k0_hw7 k0_h1 k0_h18 => k0_hw7.2.2 k0_h1 k0_h18

abbrev grid1 : Pipeline.Grid := ⟨2, ![2, 25], ![false, false]⟩

def k1_cond4 (i : grid1.Coords) : BitVec 1 :=
  let arg0 : BitVec 32 := BitVec.ofNat 32 (i 0).val
  let c1_i32_13 : BitVec 32 := 1#32
  let v33 : BitVec 1 := Scalar.cmpi .eq arg0 c1_i32_13
  let v34 : BitVec 32 := Scalar.extui v33
  let c0_i32_14 : BitVec 32 := 0#32
  let v35 : BitVec 1 := Scalar.cmpi .ne v34 c0_i32_14
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024 : Shape := ⟨1, ![1024]⟩
abbrev S100000x64 : Shape := ⟨2, ![100000, 64]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S64x100000 : Shape := ⟨2, ![64, 100000]⟩
abbrev S1024x100000 : Shape := ⟨2, ![1024, 100000]⟩

abbrev nBuf : Space → Nat
  | .hbm => 43
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1, .i32⟩
  | .hbm, ⟨12, _⟩ => ⟨S_, .i32⟩
  | .hbm, ⟨13, _⟩ => ⟨S1024x1, .i32⟩
  | .hbm, ⟨14, _⟩ => ⟨S1024x1, .i1⟩
  | .hbm, ⟨15, _⟩ => ⟨S1x1, .i32⟩
  | .hbm, ⟨16, _⟩ => ⟨S1024x1, .i32⟩
  | .hbm, ⟨17, _⟩ => ⟨S1024x1, .i1⟩
  | .hbm, ⟨18, _⟩ => ⟨S1024x1, .i1⟩
  | .hbm, ⟨19, _⟩ => ⟨S_, .i1⟩
  | .hbm, ⟨20, _⟩ => ⟨S1024, .i1⟩
  | .hbm, ⟨21, _⟩ => ⟨S1024x64, .f32⟩
  | .hbm, ⟨22, _⟩ => ⟨S1024x64, .i1⟩
  | .hbm, ⟨23, _⟩ => ⟨S_, .f32⟩
  | .hbm, ⟨24, _⟩ => ⟨S1024x64, .f32⟩
  | .hbm, ⟨25, _⟩ => ⟨S1024x64, .f32⟩
  | .hbm, ⟨26, _⟩ => ⟨S64x100000, .f32⟩
  | .hbm, ⟨27, _⟩ => ⟨S1024x100000, .f32⟩
  | .hbm, ⟨28, _⟩ => ⟨S_, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024x1, .f32⟩
  | .hbm, ⟨34, _⟩ => ⟨S1024x100000, .f32⟩
  | .hbm, ⟨35, _⟩ => ⟨S1024x100000, .f32⟩
  | .hbm, ⟨36, _⟩ => ⟨S1024x100000, .f32⟩
  | .hbm, ⟨37, _⟩ => ⟨S_, .f32⟩
  | .hbm, ⟨38, _⟩ => ⟨S1024, .f32⟩
  | .hbm, ⟨39, _⟩ => ⟨S1024x1, .f32⟩
  | .hbm, ⟨40, _⟩ => ⟨S1024x1, .f32⟩
  | .hbm, ⟨41, _⟩ => ⟨S1024x100000, .f32⟩
  | .hbm, ⟨42, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v3 : Ref sig .tc := ⟨.hbm, 42, rfl⟩

abbrev nD : Nat := 1
abbrev τ : Topo := Topo.v7x

variable {F : FTy → Type} [FloatOps F]
-- ==== Proof.TileFacts.lean ====
/-
  What the gather's index arithmetic comes to on each tile. A tile `(c, w)` with `w < 8` does one round: it fetches the
  128 indices of block `w`, and writes the 128 gathered rows to block `w`; both buffers' slot is slot 0 throughout. The
  other tiles do nothing.
-/
module

public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic

/-- The tiles that have a block of indices to serve. -/
abbrev Busy (i : grid0.Coords) : Prop := (i 1).val < 8

/-! ## The branches taken -/

theorem busy_cond1 : ∀ i : grid0.Coords, Busy i → k0_cond1 i = 1#1 := by decide +kernel
theorem idle_cond1 : ∀ i : grid0.Coords, ¬Busy i → ¬k0_cond1 i = 1#1 := by decide +kernel
theorem busy_cond2 : ∀ i : grid0.Coords, Busy i → k0_cond2 i = 1#1 := by decide +kernel
theorem busy_trips1 : ∀ i : grid0.Coords, Busy i → (k0_t1_loop i).trips = 1 := by decide +kernel
theorem busy_trips3 : ∀ i : grid0.Coords, Busy i → (k0_t3_loop i).trips = 0 := by decide +kernel
theorem busy_cond3 : ∀ i : grid0.Coords, Busy i → ∀ t : Fin (k0_t1_loop i).trips, ¬k0_cond3 i t 0#32 = 1#1 := by decide +kernel
theorem busy_cond4 : ∀ i : grid0.Coords, Busy i → ∀ t : Fin (k0_t1_loop i).trips, k0_cond4 i t 0#32 = 1#1 := by decide +kernel
theorem busy_cond7 : ∀ i : grid0.Coords, Busy i → ∀ t : Fin (k0_t1_loop i).trips, k0_cond7 i t 0#32 = 1#1 := by decide +kernel
theorem busy_cond9 : ∀ i : grid0.Coords, Busy i → ∀ t : Fin (k0_t1_loop i).trips, ¬k0_cond9 i t 0#32 = 1#1 := by decide +kernel
theorem busy_cond18 : ∀ i : grid0.Coords, Busy i → k0_cond18 i = 1#1 := by decide +kernel

/-! ## The blocks moved -/

theorem off2_busy : ∀ i : grid0.Coords, Busy i → k0_off2 i = ![0, 128 * (i 1).val] := by decide +kernel
theorem off8_busy : ∀ i : grid0.Coords, Busy i → k0_off8 i 0#32 = ![0, 128 * (i 1).val] := by decide +kernel
theorem off14_busy : ∀ i : grid0.Coords, Busy i → k0_off14 i 0#32 = ![128 * (i 1).val, 0] := by decide +kernel
theorem off35_busy : ∀ i : grid0.Coords, Busy i → k0_off35 i 0#32 = ![128 * (i 1).val, 0] := by decide +kernel
theorem off1_eq : k0_off1 = ![0, 0, 0] := by decide +kernel
theorem off7_eq : k0_off7 0#32 = ![0, 0, 0] := by decide +kernel
theorem off10_eq : k0_off10 0#32 = ![0, 0, 0] := by decide +kernel
theorem off12_eq : k0_off12 0#32 = ![0, 0, 0] := by decide +kernel
theorem off13_eq : k0_off13 0#32 = ![0, 0, 0] := by decide +kernel
theorem off37_eq : k0_off37 0#32 = ![0, 0, 0] := by decide +kernel
theorem off3_eq : k0_off3 = ![0] := by decide +kernel
theorem off9_eq : k0_off9 0#32 = ![0] := by decide +kernel
theorem off15_eq : k0_off15 0#32 = ![0] := by decide +kernel
theorem off36_eq : k0_off36 0#32 = ![0] := by decide +kernel
theorem off11_eq : ∀ t : Fin k0_t2_loop.trips, k0_off11 t = ![0, 16 * t.val] := by decide +kernel

end Cert.Proof.Tile

end
-- ==== Proof.TileProg.lean ====
/-
  The gather on a busy tile, written out: fetch the tile's block of indices, halve each, gather the rows of the table
  those name, write them to the tile's block of the result. `body_busy` says the kernel's program on such a tile is this
  one, `body_idle` that on the others it does nothing.
-/
module

public import proofs.«01_k».proof.Proof.TileFacts

@[expose] public section

noncomputable section

namespace Cert.Proof.Tile

open Cert.KernelIdeal Cert.KernelIdeal.Gen
open Idealize.ShloMosaic Idealize.SL.Sem

variable {F : FTy → Type} [FloatOps F]

/-! ## Loops of one trip and of none -/

section Loops

variable {E : Type → Type} {σ : Type} {w : ℕ}

theorem for_of_finRange {n : ℕ} (h : n = 1) (body : Fin n → σ → Prog E σ) (init : σ) :
    Scf.forFrom body (List.finRange n) init = (body ⟨0, by omega⟩ init >>= fun a => .ret a) := by
  subst h; rfl

/-- A loop of one trip is its body there. -/
theorem for_one (l : Scf.Loop w) (hok : l.OK) (init : σ) (body : Fin l.trips → σ → Prog E σ) (h : l.trips = 1) :
    Scf.Loop.for l hok init body = (body ⟨0, by omega⟩ init >>= fun a => .ret a) :=
  (Scf.for_eq _ _ _ hok init body).trans (for_of_finRange h body init)

theorem forFrom_of_zero {n : ℕ} (h : n = 0) (body : Fin n → σ → Prog E σ) (init : σ) :
    Scf.forFrom body (List.finRange n) init = .ret init := by
  subst h; rfl

/-- A loop of no trip hands its initial values on. -/
theorem for_none (l : Scf.Loop w) (hok : l.OK) (init : σ) (body : Fin l.trips → σ → Prog E σ) (h : l.trips = 0) :
    Scf.Loop.for l hok init body = .ret init :=
  (Scf.for_eq _ _ _ hok init body).trans (forFrom_of_zero h body init)

end Loops

/-! ## What the tile addresses -/

variable (i : grid0.Coords)
variable (arg2 : Memref sig .scVector .hbm S50000x128 .f32) (harg2 : arg2.IsWhole) (arg3 : Memref sig .scVector .hbm S1x1024 .i32) (harg3 : arg3.IsWhole)
  (arg4 : Memref sig .scVector .hbm S1024x128 .f32) (harg4 : arg4.IsWhole) (arg5 : Memref sig .scVector .vmem S1x128 .i32) (harg5 : arg5.IsWhole)
  (bufI : Memref sig .scVector .vmem S2x1x128 .i32) (hbufI : bufI.IsWhole) (semsI : DmaSems sig S2)
  (bufR : Memref sig .scVector .vmem S2x128x128 .f32) (hbufR : bufR.IsWhole) (semsR : DmaSems sig S2) (semG semG' : DmaSems sig S_)

theorem slotI_inb : ∀ a, (![0, 0, 0] : Fin 3 → ℕ) a + S1x1x128.size a ≤ S2x1x128.size a := by decide
theorem slotR_inb : ∀ a, (![0, 0, 0] : Fin 3 → ℕ) a + S1x128x128.size a ≤ S2x128x128.size a := by decide
theorem sem_inb : ∀ a, (![0] : Fin 1 → ℕ) a + S1.size a ≤ S2.size a := by decide
theorem idx_inb : ∀ i : grid0.Coords, Busy i → ∀ a, (![0, 128 * (i 1).val] : Fin 2 → ℕ) a + S1x128.size a ≤ S1x1024.size a := by decide +kernel
theorem out_inb : ∀ i : grid0.Coords, Busy i → ∀ a, (![128 * (i 1).val, 0] : Fin 2 → ℕ) a + S128x128.size a ≤ S1024x128.size a := by decide +kernel

/-- Slot 0 of the index buffer, as a row of 128 words. -/
abbrev slotI : Memref sig .scVector .vmem S1x128 .i32 :=
  (bufI.slice (Rect.unit (s := S2x1x128) ![0, 0, 0] S1x1x128.size slotI_inb) (fun _ => rfl)).squeeze S1x128 squeezes_S1x1x128_S1x128
/-- Slot 0 of the row buffer, as 128 rows. -/
abbrev slotR : Memref sig .scVector .vmem S128x128 .f32 :=
  (bufR.slice (Rect.unit (s := S2x128x128) ![0, 0, 0] S1x128x128.size slotR_inb) (fun _ => rfl)).squeeze S128x128 squeezes_S1x128x128_S128x128
/-- Cell 0 of a pair of semaphores. -/
abbrev cell0 (s : DmaSems sig S2) : DmaSem sig :=
  ((s.slice (Rect.unit (s := S2) ![0] S1.size sem_inb)).squeeze S_ squeezes_S1_S_).sem
/-- The tile's block of the indices. -/
abbrev idxBlk (hb : Busy i) : Memref sig .scVector .hbm S1x128 .i32 :=
  arg3.slice (Rect.unit (s := S1x1024) ![0, 128 * (i 1).val] S1x128.size (idx_inb i hb)) (fun _ => rfl)
/-- The tile's block of the result. -/
abbrev outBlk (hb : Busy i) : Memref sig .scVector .hbm S128x128 .f32 :=
  arg4.slice (Rect.unit (s := S1024x128) ![128 * (i 1).val, 0] S128x128.size (out_inb i hb)) (fun _ => rfl)
/-- The halved indices, as a list of 128. -/
abbrev listI : Memref sig .scVector .vmem S128 .i32 :=
  (arg5.slice (Rect.unit (s := S1x128) ![0, 0] S1x128.size inb_S1x128_S1x128_0_0) (fun _ => rfl)).squeeze S128 squeezes_S1x128_S128
/-- The whole table of row pairs. -/
abbrev tblAll : Memref sig .scVector .hbm S50000x128 .f32 :=
  arg2.slice (Rect.unit (s := S50000x128) ![0, 0] S50000x128.size inb_S50000x128_S50000x128_0_0) (fun _ => rfl)

/-- The program of this tile. -/
abbrev PT (F : FTy → Type) (α : Type) : Type 1 := Prog (TpuEff nD τ sig (Elt F) Λ₀ (.scVector ((i 0).castLE hcore0) ((i 1).castLE hsub0))) α

/-- Trip `t` of the halving loop: sixteen of the fetched words, each shifted right by one. -/
def halve (h1 : k0_cond1 i = 1#1) : Fin k0_t2_loop.trips → Unit → PT i F Unit := fun t _ => do
  let x : Vec F S1x16 .i32 ← Prog.lift (.load (slotI bufI) (Rect.unit (s := S1x128) (k0_off11 t) S1x16.size (k0_off11_inb i t h1)).toLoadRect (View.loadsAt_vmem h_S1x16))
  let _ : Vec F S1x16 .i32 ← Prog.lift (.load arg5 (Rect.unit (s := S1x128) (k0_off11 t) S1x16.size (k0_off11_inb i t h1)).toLoadRect (View.loadsAt_vmem h_S1x16))
  Prog.lift (.store arg5 (Rect.unit (s := S1x128) (k0_off11 t) S1x16.size (k0_off11_inb i t h1)) (k0_pay1 x) Finset.univ (View.stores_vmem_bits_univ h_S1x16 rfl) (.inl rfl))
  pure ⟨⟩

/-- The tile's one round between the fetch's issue and the write-out's wait. -/
def oneRound (hb : Busy i) (h1 : k0_cond1 i = 1#1) : PT i F Unit := do
  Prog.lift (.waitDma2 (cell0 semsI) (idxBlk i arg3 hb) (slotI bufI) (View.wordExact_bits rfl) ((View.wordExact_bits rfl).reshape _ _))
  let _ ← Scf.Loop.for k0_t2_loop (k0_t2_ok i h1) ⟨⟩ (halve (F := F) i arg5 bufI h1)
  SparseCore.enqueueIndirectGather rfl (tblAll arg2) (slotR bufR) gathers_S50000x128_S128x128 (listI arg5) rfl semG.sem (View.wordExact_bits rfl) rfl (Or.inl rfl)
  SparseCore.waitIndirectGather semG.sem (tblAll arg2) (slotR bufR) (View.wordExact_bits rfl) ((View.wordExact_bits rfl).reshape _ _)
  Prog.lift (.enqueueDma (slotR bufR) (.here (outBlk i arg4 hb)) (.dma (cell0 semsR)) ((View.wordExact_bits rfl).reshape _ _) (View.wordExact_bits rfl) ⟨Or.inl rfl, trivial⟩)
  pure ⟨⟩

/-! ## The parts, at a busy tile -/

abbrev u1 : BitVec 32 := Scalar.select (Scalar.cmpi .slt (BitVec.ofNat 32 (i 1).val) 8#32) 1#32 0#32
abbrev u6 : BitVec 32 :=
  Scalar.select (Scalar.cmpi .slt (BitVec.ofNat 32 (i 1).val) 8#32) (Scalar.muli (BitVec.ofNat 32 (i 1).val) (u1 i))
    (Scalar.addi (Scalar.muli (BitVec.ofNat 32 (i 1).val) 0#32) 8#32)

theorem u1_busy : ∀ i : grid0.Coords, Busy i → u1 i = 1#32 := by decide +kernel

theorem chk3 : ∀ i : grid0.Coords, Busy i → ∀ t : Fin (k0_t1_loop i).trips, k0_chk3 i t 0#32 := by decide +kernel
theorem chk2 : ∀ i : grid0.Coords, Busy i → ∀ t : Fin (k0_t1_loop i).trips, k0_chk2 i t 0#32 := by decide +kernel
theorem chk1 : ∀ i : grid0.Coords, Busy i → ∀ t : Fin (k0_t1_loop i).trips, k0_chk1 i t 1#32 0#32 0#32 0#32 0#32 := by decide +kernel
theorem chk8 : ∀ i : grid0.Coords, Busy i → k0_chk8 i 0#32 := by decide +kernel
theorem chk7 : ∀ i : grid0.Coords, Busy i → k0_chk7 i 0#32 := by decide +kernel

/-! Two programs' steps compared operand by operand. -/

variable {sp sp' : Space} {s : Shape} {e : EltTy}

theorem bind_congr' {E : Type → Type} {α β : Type} {p q : Prog E α} {k k' : α → Prog E β} (h : p = q) (hk : ∀ a, k a = k' a) :
    (p >>= k) = (q >>= k') := by
  rw [h, funext hk]

theorem enq_congr {src src' : Memref sig .scVector sp s e} {dst dst' : Memref sig .scVector sp' s e} {sem sem' : SemLoc sig}
    (hs : src = src') (hd : dst = dst') (hm : sem = sem') {p1 : src.view.WordExact} {p1' : src'.view.WordExact} {p2 p2' p3 p3'} :
    (Prog.lift (.enqueueDma src (.here dst) sem p1 p2 p3) : PT i F PUnit) = Prog.lift (.enqueueDma src' (.here dst') sem' p1' p2' p3') := by
  subst hs hd hm; rfl

theorem wait_congr {src src' : Memref sig .scVector sp s e} {dst dst' : Memref sig .scVector sp' s e} {sem sem' : DmaSem sig}
    (hs : src = src') (hd : dst = dst') (hm : sem = sem') {p1 p1' p2 p2'} :
    (Prog.lift (.waitDma2 sem src dst p1 p2) : PT i F PUnit) = Prog.lift (.waitDma2 sem' src' dst' p1' p2') := by
  subst hs hd hm; rfl

theorem slotI_eq {off : Fin 3 → ℕ} (h : off = ![0, 0, 0]) (inb) :
    (bufI.slice (Rect.unit (s := S2x1x128) off S1x1x128.size inb) (fun _ => rfl)).squeeze S1x128 squeezes_S1x1x128_S1x128 = slotI bufI := by
  subst h; rfl
theorem slotR_eq {off : Fin 3 → ℕ} (h : off = ![0, 0, 0]) (inb) :
    (bufR.slice (Rect.unit (s := S2x128x128) off S1x128x128.size inb) (fun _ => rfl)).squeeze S128x128 squeezes_S1x128x128_S128x128 = slotR bufR := by
  subst h; rfl
theorem cell0_eq (s : DmaSems sig S2) {off : Fin 1 → ℕ} (h : off = ![0]) (inb) :
    ((s.slice (Rect.unit (s := S2) off S1.size inb)).squeeze S_ squeezes_S1_S_).sem = cell0 s := by
  subst h; rfl
theorem idxBlk_eq (hb : Busy i) {off : Fin 2 → ℕ} (h : off = ![0, 128 * (i 1).val]) (inb) :
    arg3.slice (Rect.unit (s := S1x1024) off S1x128.size inb) (fun _ => rfl) = idxBlk i arg3 hb := by
  subst h; rfl
theorem outBlk_eq (hb : Busy i) {off : Fin 2 → ℕ} (h : off = ![128 * (i 1).val, 0]) (inb) :
    arg4.slice (Rect.unit (s := S1024x128) off S128x128.size inb) (fun _ => rfl) = outBlk i arg4 hb := by
  subst h; rfl

theorem part5_busy (hb : Busy i) (h1 : k0_cond1 i = 1#1) (v6 : BitVec 32) :
    k0_part5 (F := F) i arg2 harg2 arg3 harg3 arg4 harg4 arg5 harg5 bufI hbufI semsI bufR hbufR semsR semG semG' 1#32 v6 1#32 h1
      = (do
          Prog.lift (.enqueueDma (idxBlk i arg3 hb) (.here (slotI bufI)) (.dma (cell0 semsI)) (View.wordExact_bits rfl) ((View.wordExact_bits rfl).reshape _ _) ⟨Or.inl rfl, trivial⟩)
          pure ⟨1#32, 0#32, 0#32, 0#32, 0#32, 0#32, 1#32⟩) := by
  rw [k0_part5_eq_skeleton]
  unfold k0_part5_skel
  rw [dif_pos (busy_cond2 i hb)]
  exact bind_congr' (enq_congr i (idxBlk_eq i arg3 hb (off2_busy i hb) _) (slotI_eq bufI off1_eq _) (congrArg SemLoc.dma (cell0_eq semsI off3_eq _))) fun _ => rfl

theorem t2_body_busy (h1 : k0_cond1 i = 1#1) (t1 : Fin (k0_t1_loop i).trips) (a7 a10 a11 : BitVec 32) (hw3 hw2 hw1) (a6 v76 v77 v79 v80 v86 v91 v109 c2) :
    k0_t2_body (F := F) i arg2 harg2 arg3 harg3 arg4 harg4 arg5 harg5 bufI hbufI semsI bufR hbufR semsR semG semG' h1 t1 a7 0#32 0#32 a10 a11 hw3 hw2 hw1 a6 v76 v77 v79 v80 v86 v91 v109 c2
      = halve i arg5 bufI h1 := by
  funext t a
  unfold k0_t2_body halve
  refine bind_congr' ?_ fun _ => rfl
  have := slotI_eq bufI off10_eq (k0_off10_inb i t1 0#32 hw2 h1)
  generalize (bufI.slice (Rect.unit (s := S2x1x128) (k0_off10 0#32) S1x1x128.size (k0_off10_inb i t1 0#32 hw2 h1)) (fun _ => rfl)).squeeze S1x128 squeezes_S1x1x128_S1x128 = x at this
  subst this; rfl

theorem part2_busy (hb : Busy i) (h1 : k0_cond1 i = 1#1) (t1 : Fin (k0_t1_loop i).trips) (a7 a10 : BitVec 32) (hw3 hw2 hw1) (a6 v76 v77 v79 v80 v86 v91 v109 c2) :
    k0_part2 (F := F) i arg2 harg2 arg3 harg3 arg4 harg4 arg5 harg5 bufI hbufI semsI bufR hbufR semsR semG semG' h1 t1 a7 0#32 0#32 a10 0#32 hw3 hw2 hw1 a6 v76 v77 v79 v80 v86 v91 v109 c2
      = (do
          Prog.lift (.waitDma2 (cell0 semsI) (idxBlk i arg3 hb) (slotI bufI) (View.wordExact_bits rfl) ((View.wordExact_bits rfl).reshape _ _))
          let _ ← Scf.Loop.for k0_t2_loop (k0_t2_ok i h1) ⟨⟩ (halve (F := F) i arg5 bufI h1)
          SparseCore.enqueueIndirectGather rfl (tblAll arg2) (slotR bufR) gathers_S50000x128_S128x128 (listI arg5) rfl semG.sem (View.wordExact_bits rfl) rfl (Or.inl rfl)
          SparseCore.waitIndirectGather semG.sem (tblAll arg2) (slotR bufR) (View.wordExact_bits rfl) ((View.wordExact_bits rfl).reshape _ _)
          pure (Scalar.ori (Scalar.cmpi .ne v80 v91) v79)) := by
  rw [k0_part2_eq_skeleton]
  unfold k0_part2_skel
  rw [dif_pos (busy_cond4 i hb t1), t2_body_busy]
  refine bind_congr' (wait_congr i (idxBlk_eq i arg3 hb (off8_busy i hb) _) (slotI_eq bufI off7_eq _) (cell0_eq semsI off9_eq _)) fun _ => ?_
  rw [ite_self]
  refine bind_congr' rfl fun _ => ?_
  have := slotR_eq bufR off12_eq (k0_off12_inb i t1 0#32 hw3 h1)
  generalize (bufR.slice (Rect.unit (s := S2x128x128) (k0_off12 0#32) S1x128x128.size (k0_off12_inb i t1 0#32 hw3 h1)) (fun _ => rfl)).squeeze S128x128 squeezes_S1x128x128_S128x128 = x at this
  subst this; rfl

theorem cmpi_ne_self (x : BitVec 32) : Scalar.cmpi .ne x x = 0#1 := by
  simp [Scalar.cmpi, IntOp.cmpi]

theorem part1_busy (hb : Busy i) (h1 : k0_cond1 i = 1#1) (ht : 0 < (k0_t1_loop i).trips) (v6 : BitVec 32) :
    k0_part1 (F := F) i arg2 harg2 arg3 harg3 arg4 harg4 arg5 harg5 bufI hbufI semsI bufR hbufR semsR semG semG' 1#32 v6 h1 0#32 1#32 ⟨0, ht⟩ 1#32 0#32 0#32 0#32 0#32
      = (do
          let hw3 ← Prog.lift (TpuEff.assume (k0_chk3 i ⟨0, ht⟩ 0#32) (k0_chk3.dec i ⟨0, ht⟩ 0#32))
          let hw2 ← Prog.lift (TpuEff.assume (k0_chk2 i ⟨0, ht⟩ 0#32) (k0_chk2.dec i ⟨0, ht⟩ 0#32))
          let hw1 ← Prog.lift (TpuEff.assume (k0_chk1 i ⟨0, ht⟩ 1#32 0#32 0#32 0#32 0#32) (k0_chk1.dec i ⟨0, ht⟩ 1#32 0#32 0#32 0#32 0#32))
          pure ⟨hw3.down, hw2.down, hw1.down, 0#32, 1#32, 1#1, 1#1, Scalar.addi 0#32 v6, Scalar.addi 0#32 v6, Scalar.addi 0#32 v6, 1#32, 0#1, 2#32⟩) := by
  rw [k0_part1_eq_skeleton]
  unfold k0_part1_skel
  refine bind_congr' rfl fun hw3 => bind_congr' rfl fun hw2 => bind_congr' rfl fun hw1 => ?_
  rw [dif_neg (busy_cond3 i hb _)]
  have hx : Scalar.cmpi .ne (Scalar.addi 0#32 v6) (Scalar.addi (Scalar.select (Scalar.cmpi .eq (Scalar.select 1#1 (Scalar.addi 0#32 1#32) 0#32) 1#32) 0#32
      (Scalar.select 1#1 (Scalar.addi 0#32 1#32) 0#32)) v6) = 0#1 := cmpi_ne_self _
  simp only [hx]
  rfl

theorem t1_body_busy (hb : Busy i) (h1 : k0_cond1 i = 1#1) (ht : 0 < (k0_t1_loop i).trips) (v6 : BitVec 32) :
    k0_t1_body (F := F) i arg2 harg2 arg3 harg3 arg4 harg4 arg5 harg5 bufI hbufI semsI bufR hbufR semsR semG semG' 1#32 v6 1#32 h1 1#32 0#32 0#32 0#32 0#32 0#32 1#32
        ⟨0, ht⟩ (1#32, 0#32, 0#32, 0#32, 0#32)
      = (do
          let _ ← Prog.lift (TpuEff.assume (k0_chk3 i ⟨0, ht⟩ 0#32) (k0_chk3.dec i ⟨0, ht⟩ 0#32))
          let _ ← Prog.lift (TpuEff.assume (k0_chk2 i ⟨0, ht⟩ 0#32) (k0_chk2.dec i ⟨0, ht⟩ 0#32))
          let _ ← Prog.lift (TpuEff.assume (k0_chk1 i ⟨0, ht⟩ 1#32 0#32 0#32 0#32 0#32) (k0_chk1.dec i ⟨0, ht⟩ 1#32 0#32 0#32 0#32 0#32))
          oneRound (F := F) i arg2 arg3 arg4 arg5 bufI semsI bufR semsR semG hb h1
          pure (1#32, 1#32, 1#32, 0#32, 0#32)) := by
  unfold k0_t1_body
  simp only [part1_busy i arg2 harg2 arg3 harg3 arg4 harg4 arg5 harg5 bufI hbufI semsI bufR hbufR semsR semG semG' hb h1 ht v6, bind_assoc, pure_bind]
  refine bind_congr' rfl fun hw3 => bind_congr' rfl fun hw2 => bind_congr' rfl fun hw1 => ?_
  rw [part2_busy (hb := hb), dif_neg (busy_cond9 i hb _), dif_pos (busy_cond7 i hb _)]
  unfold oneRound
  simp only [bind_assoc, pure_bind]
  refine bind_congr' rfl fun _ => bind_congr' rfl fun _ => bind_congr' rfl fun _ => bind_congr' rfl fun _ => ?_
  simp only [ite_self, pure_bind]
  refine bind_congr' (enq_congr i (slotR_eq bufR off13_eq _) (outBlk_eq i arg4 hb (off14_busy i hb) _) (congrArg SemLoc.dma (cell0_eq semsR off15_eq _))) fun _ => ?_
  simp only [cmpi_ne_self]
  rfl

theorem part6_busy (hb : Busy i) (h1 : k0_cond1 i = 1#1) (v6 : BitVec 32) :
    k0_part6 (F := F) i arg2 harg2 arg3 harg3 arg4 harg4 arg5 harg5 bufI hbufI semsI bufR hbufR semsR semG semG' 1#32 v6 1#32 h1 1#32 0#32 0#32 0#32 0#32 0#32 1#32
      = (do
          let _ ← Prog.lift (TpuEff.assume (k0_chk3 i ⟨0, by rw [busy_trips1 i hb]; omega⟩ 0#32) (k0_chk3.dec i _ 0#32))
          let _ ← Prog.lift (TpuEff.assume (k0_chk2 i ⟨0, by rw [busy_trips1 i hb]; omega⟩ 0#32) (k0_chk2.dec i _ 0#32))
          let _ ← Prog.lift (TpuEff.assume (k0_chk1 i ⟨0, by rw [busy_trips1 i hb]; omega⟩ 1#32 0#32 0#32 0#32 0#32) (k0_chk1.dec i _ 1#32 0#32 0#32 0#32 0#32))
          oneRound (F := F) i arg2 arg3 arg4 arg5 bufI semsI bufR semsR semG hb h1
          let _ ← Prog.lift (TpuEff.assume (k0_chk8 i 0#32) (k0_chk8.dec i 0#32))
          let _ ← Prog.lift (TpuEff.assume (k0_chk7 i 0#32) (k0_chk7.dec i 0#32))
          Prog.lift (.waitDma2 (cell0 semsR) (slotR bufR) (outBlk i arg4 hb) ((View.wordExact_bits rfl).reshape _ _) (View.wordExact_bits rfl))) := by
  rw [k0_part6_eq_skeleton]
  unfold k0_part6_skel
  rw [for_one _ _ _ _ (busy_trips1 i hb), t1_body_busy (hb := hb)]
  have hret : ∀ {E : Type → Type} {α : Type} (a : α), (Prog.ret a : Prog E α) = pure a := fun _ => rfl
  simp only [hret, for_none _ _ _ _ (busy_trips3 i hb), bind_assoc, pure_bind, ite_self, dite_eq_ite]
  refine bind_congr' rfl fun _ => bind_congr' rfl fun _ => bind_congr' rfl fun _ => bind_congr' rfl fun _ => bind_congr' rfl fun _ => bind_congr' rfl fun _ => ?_
  rw [dif_pos (busy_cond18 i hb)]
  exact bind_congr' (wait_congr i (slotR_eq bufR off37_eq _) (outBlk_eq i arg4 hb (off35_busy i hb) _) (cell0_eq semsR off36_eq _)) fun _ => rfl

/-- What a busy tile runs. -/
def tileProg (hb : Busy i) (h1 : k0_cond1 i = 1#1) : PT i F PUnit := do
  Prog.lift (.enqueueDma (idxBlk i arg3 hb) (.here (slotI bufI)) (.dma (cell0 semsI)) (View.wordExact_bits rfl) ((View.wordExact_bits rfl).reshape _ _) ⟨Or.inl rfl, trivial⟩)
  let _ ← Prog.lift (TpuEff.assume (k0_chk3 i ⟨0, by rw [busy_trips1 i hb]; omega⟩ 0#32) (k0_chk3.dec i _ 0#32))
  let _ ← Prog.lift (TpuEff.assume (k0_chk2 i ⟨0, by rw [busy_trips1 i hb]; omega⟩ 0#32) (k0_chk2.dec i _ 0#32))
  let _ ← Prog.lift (TpuEff.assume (k0_chk1 i ⟨0, by rw [busy_trips1 i hb]; omega⟩ 1#32 0#32 0#32 0#32 0#32) (k0_chk1.dec i _ 1#32 0#32 0#32 0#32 0#32))
  oneRound (F := F) i arg2 arg3 arg4 arg5 bufI semsI bufR semsR semG hb h1
  let _ ← Prog.lift (TpuEff.assume (k0_chk8 i 0#32) (k0_chk8.dec i 0#32))
  let _ ← Prog.lift (TpuEff.assume (k0_chk7 i 0#32) (k0_chk7.dec i 0#32))
  Prog.lift (.waitDma2 (cell0 semsR) (slotR bufR) (outBlk i arg4 hb) ((View.wordExact_bits rfl).reshape _ _) (View.wordExact_bits rfl))

/-- The kernel on a busy tile. -/
theorem body_busy (hb : Busy i) (h1 : k0_cond1 i = 1#1) :
    cc0_gather_kernel (F := F) i arg2 harg2 arg3 harg3 arg4 harg4 arg5 harg5 bufI hbufI semsI bufR hbufR semsR semG semG'
      = tileProg i arg2 arg3 arg4 arg5 bufI semsI bufR semsR semG hb h1 := by
  rw [cc0_gather_kernel_eq_skeleton]
  unfold cc0_gather_kernel_skel
  rw [dif_pos h1]
  have e1 := u1_busy i hb
  have e7 : Scalar.muli 1#32 (1#32 : BitVec 32) = 1#32 := rfl
  simp only [e1, e7, part5_busy (hb := hb), part6_busy (hb := hb), bind_assoc, pure_bind]
  unfold tileProg
  refine bind_congr' rfl fun _ => bind_congr' rfl fun _ => bind_congr' rfl fun _ => bind_congr' rfl fun _ => bind_congr' rfl fun _ => bind_congr' rfl fun _ => bind_congr' rfl fun _ => ?_
  rfl

/-- The kernel on a tile with nothing to do. -/
theorem body_idle (hb : ¬Busy i) :
    cc0_gather_kernel (F := F) i arg2 harg2 arg3 harg3 arg4 harg4 arg5 harg5 bufI hbufI semsI bufR hbufR semsR semG semG' = pure ⟨⟩ := by
  rw [cc0_gather_kernel_eq_skeleton]
  unfold cc0_gather_kernel_skel
  rw [dif_neg (idle_cond1 i hb)]

end Cert.Proof.Tile

end
-- ==== Proof.Common.lean ====
/-
  What every part of the run of `@main` shares: the program's tables, the ghost state (the SparseCore calls' handshakes,
  write mode, the TensorCore pipeline's rounds, the transfers' counters), the arrays, and what the gather is to leave.

  The two SparseCores' tiles `(0, w)` and `(1, w)` both write block `w` of the gathered rows, and write the same rows.
  So the result of that call is put in write mode for its time: each element has a target, the gathered element, and each
  core holds half of every element's write permission.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WriteMode
public import Idealize.ShloMosaic.Lib.ShareLeaves
public import Idealize.ShloMosaic.Lib.ValueIdxCore
public import Idealize.ShloMosaic.Lib.Tactic
public import proofs.«01_k».proof.Proof.TileProg

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type}

/-! ## The program's tables -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UW (F : FTy → Type) : Type := WmRA nD τ sig (Elt F)
abbrev UU (F : FTy → Type) : Type := UH × (UW F × (UP × Counters))

local notation "𝕄" => MT nD τ sig (SparseCore.Cfg.HIx 1) (Elt F) ℕ (UU F) ℕ

/-- The handshakes' part. -/
abbrev EH : Emb UH (MT nD τ sig (SparseCore.Cfg.HIx 1) (Elt F) ℕ (UU F) ℕ) := embL
/-- Write mode's part. -/
abbrev EW : UEmb (UW F) (UU F) := UEmb.inl.trans UEmb.inr
/-- The pipeline's part. -/
def EP : Emb UP (MT nD τ sig (SparseCore.Cfg.HIx 1) (Elt F) ℕ (UU F) ℕ) :=
  (Emb.inl : Emb UP (UP × Counters)).trans ((Emb.inr : Emb (UP × Counters) (UW F × (UP × Counters))).trans embR)

instance EP_landsIn : (EP (F := F)).LandsIn (upEmb : UEmb _ 𝕄) := by unfold EP; infer_instance

/-! ## The arrays of the gather -/

abbrev tblLoc (d : Dev nD) : Loc nD τ sig := (SparseCore.T d).loc main_v0
abbrev idxLoc (d : Dev nD) : Loc nD τ sig := (SparseCore.T d).loc main_v1
abbrev outLoc (d : Dev nD) : Loc nD τ sig := (SparseCore.T d).loc main_v2

/-- The gathered rows: row `r` is the row pair `idx r / 2` of the table. -/
def gathered (d : Dev nD) (tb : Buf (Elt F) (tblLoc d)) (ix : Buf (Elt F) (idxLoc d)) : Buf (Elt F) (outLoc d) :=
  fun j : S1024x128.Idx => tb (ix2 (Fin.ofNat 50000 (((ix (ix2 (0 : Fin 1) (j 0)) : BitVec 32).toNat) / 2)) (j 1))

/-- Its elements in block `w`: rows `128·w` to `128·w + 127`. -/
def blk (d : Dev nD) (w : Fin 16) : Finset (Idx (outLoc d)) :=
  (Finset.univ : Finset S1024x128.Idx).filter fun j => (j 0).val / 128 = w.val

/-- Every index names a row of the table. -/
def InRange (ix : (d : Dev nD) → Buf (Elt F) (idxLoc d)) : Prop := ∀ (d : Dev nD) (j : S1x1024.Idx), (ix d j : BitVec 32).toNat < 100000

/-- Core `c`'s half of what both cores hold. -/
def half (c : Fin 2) : PosShare TreeShare := if c.val = 0 then PosShare.left fullShare else PosShare.right fullShare

end Cert.Proof

end
-- ==== Proof.Region.lean ====
/-
  The TensorCore kernel at one grid point: what it leaves in its buffers, case by case over the grid.

  The grid is two passes over the vocabulary's 25 blocks. In the first pass the kernel adds up, in its first scratch, the
  exponentials of the logits (point `(0, 0)` starts from zero), and at the last block puts the logarithm of the sum in its
  second scratch. In the second pass it computes the logits again and stores them less that logarithm.
-/
module

public import proofs.«01_k».proof.Proof.Common
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.VecWindow

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx (ix2 eq_ix2)

variable {F : FTy → Type} [FloatOps F]

local notation "𝕄" => MT nD τ sig (SparseCore.Cfg.HIx 1) (Elt F) ℕ (UU F) ℕ

/-! ## The conditions on the grid point -/

/-- The condition of the first store into the first scratch, -/
abbrev cond1 (p v : ℕ) : BitVec 1 :=
  Scalar.cmpi .ne (Scalar.extui (Scalar.andi (Scalar.cmpi .eq (BitVec.ofNat 32 p) 0#32) (Scalar.cmpi .eq (BitVec.ofNat 32 v) 0#32)) : BitVec 32) 0#32
/-- of the sum's, -/
abbrev cond2 (p v : ℕ) : BitVec 1 :=
  Scalar.cmpi .ne (Scalar.extui (Scalar.andi (Scalar.cmpi .eq (BitVec.ofNat 32 p) 0#32) (Scalar.cmpi .slt (BitVec.ofNat 32 v) 24#32)) : BitVec 32) 0#32
/-- and of the logarithm's. -/
abbrev cond3 (p v : ℕ) : BitVec 1 :=
  Scalar.cmpi .ne (Scalar.extui (Scalar.andi (Scalar.cmpi .eq (BitVec.ofNat 32 p) 0#32) (Scalar.cmpi .eq (BitVec.ofNat 32 v) 24#32)) : BitVec 32) 0#32

theorem cond1_iff : ∀ (p : Fin 2) (v : Fin 25), cond1 p.val v.val = 1#1 ↔ p.val = 0 ∧ v.val = 0 := by decide
theorem cond2_iff : ∀ (p : Fin 2) (v : Fin 25), cond2 p.val v.val = 1#1 ↔ p.val = 0 ∧ v.val < 24 := by decide
theorem cond3_iff : ∀ (p : Fin 2) (v : Fin 25), cond3 p.val v.val = 1#1 ↔ p.val = 0 ∧ v.val = 24 := by decide
theorem cond4_iff (i : grid1.Coords) : k1_cond4 i = 1#1 ↔ (i 0).val = 1 :=
  (by decide : ∀ p : Fin 2, Scalar.cmpi .ne (Scalar.extui (Scalar.cmpi .eq (BitVec.ofNat 32 p.val) 1#32) : BitVec 32) 0#32 = 1#1 ↔ p.val = 1) (i 0)

/-! ## The body, run once for each case -/

section Run

variable (c : Dev nD) (i : grid1.Coords)
  (a2 : Memref sig .tc .vmem S1024x128 .f32) (h2 : a2.IsWhole) (a3 : Memref sig .tc .vmem S1024x1 .i32) (h3 : a3.IsWhole)
  (a4 : Memref sig .tc .vmem S64x4096 .f32) (h4 : a4.IsWhole) (a5 : Memref sig .tc .vmem S4096x1024 .f32) (h5 : a5.IsWhole)
  (a6 : Memref sig .tc .vmem S1x1024 .f32) (h6 : a6.IsWhole) (a7 : Memref sig .tc .vmem S1x1024 .f32) (h7 : a7.IsWhole)
  (x0 : Vec F S1024x128 .f32) (x1 : Vec F S1024x1 .i32) (x2 : Vec F S64x4096 .f32) (x3 : Vec F S4096x1024 .f32)
  (s z : Vec F S1x1024 .f32)

/-- What the kernel holds at a point: its four windows' buffers and its two scratches. -/
def bufs (x3 : Vec F S4096x1024 .f32) (s z : Vec F S1x1024 .f32) : sProp 𝕄 :=
  iprop(owns (c.tc : Thread nD τ) a2 fullShare x0 ∗ owns (c.tc : Thread nD τ) a3 fullShare x1 ∗ owns (c.tc : Thread nD τ) a4 fullShare x2
    ∗ owns (c.tc : Thread nD τ) a5 fullShare x3 ∗ owns (c.tc : Thread nD τ) a6 fullShare s ∗ owns (c.tc : Thread nD τ) a7 fullShare z)

/-! A load of all of a buffer reads its contents; after a store to all of it, the stored vector. -/

omit [FloatOps F] in
theorem rd_load {S : Shape} {e : EltTy} (v : View sig .tc .vmem S e) (f : v.ty.Contents (Elt F)) {off : Fin S.rank → ℕ}
    (inb : ∀ a, off a + S.size a ≤ S.size a) : v.readAt (Elt F) (Rect.unit off S.size inb).toLoadRect f = v.read (Elt F) f :=
  View.readAt_full v f inb
omit [FloatOps F] in
theorem rd_writes {S : Shape} {e : EltTy} (v : View sig .tc .vmem S e) (f : v.ty.Contents (Elt F)) {off : Fin S.rank → ℕ}
    (inb : ∀ a, off a + S.size a ≤ S.size a) (w : (Rect.unit off S.size inb).shape.Idx → Elt F e) (L : List (View.Piece (Elt F) S e)) :
    v.read (Elt F) (v.writes (Elt F) f (⟨Rect.unit off S.size inb, w⟩ :: L)) = w := View.read_writes_full v f inb w L
omit [FloatOps F] in
theorem rd_load_writes {S : Shape} {e : EltTy} (v : View sig .tc .vmem S e) (f : v.ty.Contents (Elt F)) {off off' : Fin S.rank → ℕ}
    (inb : ∀ a, off a + S.size a ≤ S.size a) (inb' : ∀ a, off' a + S.size a ≤ S.size a)
    (w : (Rect.unit off' S.size inb').shape.Idx → Elt F e) (L : List (View.Piece (Elt F) S e)) :
    v.readAt (Elt F) (Rect.unit off S.size inb).toLoadRect (v.writes (Elt F) f (⟨Rect.unit off' S.size inb', w⟩ :: L)) = w :=
  View.readAt_writes_full v f inb inb' w L

/-- At the first point the sum starts from zero. -/
theorem run_first (hp : (i 0).val = 0) (hv : (i 1).val = 0) (Kk : PUnit → sProp 𝕄) :
    iprop(bufs c a2 a3 a4 a5 a6 a7 x0 x1 x2 x3 s z
        ∗ (bufs c a2 a3 a4 a5 a6 a7 x0 x1 x2 x3 (k1_pay4 x0 x1 x2 k1_pay3) z -∗ Kk ⟨⟩))
      ⊢ wp frame (wpE (defs₀ (F := F)) 𝒱₀ c.tc none) Set.univ
          (cc1__fused_body i a2 h2 a3 h3 a4 h4 a5 h5 a6 h6 a7 h7) Kk := by
  have e1 : cond1 (i 0).val (i 1).val = 1#1 := by rw [cond1_iff (i 0) (i 1)]; omega
  have e2 : cond2 (i 0).val (i 1).val = 1#1 := by rw [cond2_iff (i 0) (i 1)]; omega
  have e3 : ¬cond3 (i 0).val (i 1).val = 1#1 := by rw [cond3_iff (i 0) (i 1)]; omega
  have e4 : ¬k1_cond4 i = 1#1 := by rw [cond4_iff i]; omega
  unfold bufs owns
  simp only [cc1__fused_body_eq_skeleton]; unfold cc1__fused_body_skel
  simp only [k1_part1_eq_skeleton]; unfold k1_part1_skel
  simp only [dif_pos e1, dif_pos e2, dif_neg e3, dif_neg e4]
  iintro ⟨⟨⟨%f2, %hf2, H2⟩, ⟨%f3, %hf3, H3⟩, ⟨%f4, %hf4, H4⟩, ⟨%f5, %hf5, H5⟩, ⟨%fs, %hfs, HS⟩, ⟨%fz, %hfz, HZ⟩⟩, Hk⟩
  sl_exec
  sl_step
  have r2 : View.readAt (Elt F) a2.view (Rect.unit ![0, 0] ![1024, 128] inb_S1024x128_S1024x128_0_0).toLoadRect f2 = x0 := (rd_load a2.view f2 _).trans hf2
  have r3 : View.readAt (Elt F) a3.view (Rect.unit ![0, 0] ![1024, 1] inb_S1024x1_S1024x1_0_0).toLoadRect f3 = x1 := (rd_load a3.view f3 _).trans hf3
  have r4 : View.readAt (Elt F) a4.view (Rect.unit ![0, 0] ![64, 4096] inb_S64x4096_S64x4096_0_0).toLoadRect f4 = x2 := (rd_load a4.view f4 _).trans hf4
  have rs : View.readAt (Elt F) a6.view (Rect.unit ![0, 0] ![1, 1024] inb_S1x1024_S1x1024_0_0).toLoadRect fs = s := (rd_load a6.view fs _).trans hfs
  have rz : View.readAt (Elt F) a7.view (Rect.unit ![0, 0] ![1, 1024] inb_S1x1024_S1x1024_0_0).toLoadRect fz = z := (rd_load a7.view fz _).trans hfz
  iapply Hk
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]
  · iexists _; isplitr; swap; · iexact H5
    ipureintro
    exact hf5
  isplitl [HS]
  · iexists _; isplitr; swap; · iexact HS
    ipureintro
    rw [rd_writes]; simp only [r2, r3, r4]; unfold run_first.sl.v36 run_first.sl.HS_1; exact congrArg (k1_pay4 x0 x1 x2) (View.readCov_full a6.view inb_S1x1024_S1x1024_0_0 inb_S1x1024_S1x1024_0_0 _ [])
  iexists _; isplitr; swap; · iexact HZ
  ipureintro
  exact hfz

/-- At the first pass's other blocks but the last, the block's exponentials are added to the sum. -/
theorem run_mid (hp : (i 0).val = 0) (hv : 0 < (i 1).val) (hv' : (i 1).val < 24) (Kk : PUnit → sProp 𝕄) :
    iprop(bufs c a2 a3 a4 a5 a6 a7 x0 x1 x2 x3 s z
        ∗ (bufs c a2 a3 a4 a5 a6 a7 x0 x1 x2 x3 (k1_pay4 x0 x1 x2 s) z -∗ Kk ⟨⟩))
      ⊢ wp frame (wpE (defs₀ (F := F)) 𝒱₀ c.tc none) Set.univ
          (cc1__fused_body i a2 h2 a3 h3 a4 h4 a5 h5 a6 h6 a7 h7) Kk := by
  have e1 : ¬cond1 (i 0).val (i 1).val = 1#1 := by rw [cond1_iff (i 0) (i 1)]; omega
  have e2 : cond2 (i 0).val (i 1).val = 1#1 := by rw [cond2_iff (i 0) (i 1)]; omega
  have e3 : ¬cond3 (i 0).val (i 1).val = 1#1 := by rw [cond3_iff (i 0) (i 1)]; omega
  have e4 : ¬k1_cond4 i = 1#1 := by rw [cond4_iff i]; omega
  unfold bufs owns
  simp only [cc1__fused_body_eq_skeleton]; unfold cc1__fused_body_skel
  simp only [k1_part1_eq_skeleton]; unfold k1_part1_skel
  simp only [dif_neg e1, dif_pos e2, dif_neg e3, dif_neg e4]
  iintro ⟨⟨⟨%f2, %hf2, H2⟩, ⟨%f3, %hf3, H3⟩, ⟨%f4, %hf4, H4⟩, ⟨%f5, %hf5, H5⟩, ⟨%fs, %hfs, HS⟩, ⟨%fz, %hfz, HZ⟩⟩, Hk⟩
  sl_exec
  sl_step
  have r2 : View.readAt (Elt F) a2.view (Rect.unit ![0, 0] ![1024, 128] inb_S1024x128_S1024x128_0_0).toLoadRect f2 = x0 := (rd_load a2.view f2 _).trans hf2
  have r3 : View.readAt (Elt F) a3.view (Rect.unit ![0, 0] ![1024, 1] inb_S1024x1_S1024x1_0_0).toLoadRect f3 = x1 := (rd_load a3.view f3 _).trans hf3
  have r4 : View.readAt (Elt F) a4.view (Rect.unit ![0, 0] ![64, 4096] inb_S64x4096_S64x4096_0_0).toLoadRect f4 = x2 := (rd_load a4.view f4 _).trans hf4
  have rs : View.readAt (Elt F) a6.view (Rect.unit ![0, 0] ![1, 1024] inb_S1x1024_S1x1024_0_0).toLoadRect fs = s := (rd_load a6.view fs _).trans hfs
  have rz : View.readAt (Elt F) a7.view (Rect.unit ![0, 0] ![1, 1024] inb_S1x1024_S1x1024_0_0).toLoadRect fz = z := (rd_load a7.view fz _).trans hfz
  iapply Hk
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]
  · iexists _; isplitr; swap; · iexact H5
    ipureintro
    exact hf5
  isplitl [HS]
  · iexists _; isplitr; swap; · iexact HS
    ipureintro
    rw [rd_writes]; simp only [r2, r3, r4, rs]
  iexists _; isplitr; swap; · iexact HZ
  ipureintro
  exact hfz

/-- At its last block the second scratch is given the logarithm of the whole sum. -/
theorem run_last (hp : (i 0).val = 0) (hv : (i 1).val = 24) (Kk : PUnit → sProp 𝕄) :
    iprop(bufs c a2 a3 a4 a5 a6 a7 x0 x1 x2 x3 s z
        ∗ (bufs c a2 a3 a4 a5 a6 a7 x0 x1 x2 x3 s (k1_pay5 i x0 x1 x2 s) -∗ Kk ⟨⟩))
      ⊢ wp frame (wpE (defs₀ (F := F)) 𝒱₀ c.tc none) Set.univ
          (cc1__fused_body i a2 h2 a3 h3 a4 h4 a5 h5 a6 h6 a7 h7) Kk := by
  have e1 : ¬cond1 (i 0).val (i 1).val = 1#1 := by rw [cond1_iff (i 0) (i 1)]; omega
  have e2 : ¬cond2 (i 0).val (i 1).val = 1#1 := by rw [cond2_iff (i 0) (i 1)]; omega
  have e3 : cond3 (i 0).val (i 1).val = 1#1 := by rw [cond3_iff (i 0) (i 1)]; omega
  have e4 : ¬k1_cond4 i = 1#1 := by rw [cond4_iff i]; omega
  unfold bufs owns
  simp only [cc1__fused_body_eq_skeleton]; unfold cc1__fused_body_skel
  simp only [k1_part1_eq_skeleton]; unfold k1_part1_skel
  simp only [dif_neg e1, dif_neg e2, dif_pos e3, dif_neg e4]
  iintro ⟨⟨⟨%f2, %hf2, H2⟩, ⟨%f3, %hf3, H3⟩, ⟨%f4, %hf4, H4⟩, ⟨%f5, %hf5, H5⟩, ⟨%fs, %hfs, HS⟩, ⟨%fz, %hfz, HZ⟩⟩, Hk⟩
  sl_exec
  sl_step
  have r2 : View.readAt (Elt F) a2.view (Rect.unit ![0, 0] ![1024, 128] inb_S1024x128_S1024x128_0_0).toLoadRect f2 = x0 := (rd_load a2.view f2 _).trans hf2
  have r3 : View.readAt (Elt F) a3.view (Rect.unit ![0, 0] ![1024, 1] inb_S1024x1_S1024x1_0_0).toLoadRect f3 = x1 := (rd_load a3.view f3 _).trans hf3
  have r4 : View.readAt (Elt F) a4.view (Rect.unit ![0, 0] ![64, 4096] inb_S64x4096_S64x4096_0_0).toLoadRect f4 = x2 := (rd_load a4.view f4 _).trans hf4
  have rs : View.readAt (Elt F) a6.view (Rect.unit ![0, 0] ![1, 1024] inb_S1x1024_S1x1024_0_0).toLoadRect fs = s := (rd_load a6.view fs _).trans hfs
  have rz : View.readAt (Elt F) a7.view (Rect.unit ![0, 0] ![1, 1024] inb_S1x1024_S1x1024_0_0).toLoadRect fz = z := (rd_load a7.view fz _).trans hfz
  iapply Hk
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]
  · iexists _; isplitr; swap; · iexact H5
    ipureintro
    exact hf5
  isplitl [HS]
  · iexists _; isplitr; swap; · iexact HS
    ipureintro
    exact hfs
  iexists _; isplitr; swap; · iexact HZ
  ipureintro
  rw [rd_writes]; simp only [r2, r3, r4, rs]

/-- In the second pass the logits less the second scratch are stored. -/
theorem run_out (hp : (i 0).val = 1) (Kk : PUnit → sProp 𝕄) :
    iprop(bufs c a2 a3 a4 a5 a6 a7 x0 x1 x2 x3 s z
        ∗ (bufs c a2 a3 a4 a5 a6 a7 x0 x1 x2 (k1_pay1 (k1_pay2 x0 x1 x2) z) s z -∗ Kk ⟨⟩))
      ⊢ wp frame (wpE (defs₀ (F := F)) 𝒱₀ c.tc none) Set.univ
          (cc1__fused_body i a2 h2 a3 h3 a4 h4 a5 h5 a6 h6 a7 h7) Kk := by
  have e1 : ¬cond1 (i 0).val (i 1).val = 1#1 := by rw [cond1_iff (i 0) (i 1)]; omega
  have e2 : ¬cond2 (i 0).val (i 1).val = 1#1 := by rw [cond2_iff (i 0) (i 1)]; omega
  have e3 : ¬cond3 (i 0).val (i 1).val = 1#1 := by rw [cond3_iff (i 0) (i 1)]; omega
  have e4 : k1_cond4 i = 1#1 := by rw [cond4_iff i]; omega
  unfold bufs owns
  simp only [cc1__fused_body_eq_skeleton]; unfold cc1__fused_body_skel
  simp only [k1_part1_eq_skeleton]; unfold k1_part1_skel
  simp only [dif_neg e1, dif_neg e2, dif_neg e3, dif_pos e4]
  iintro ⟨⟨⟨%f2, %hf2, H2⟩, ⟨%f3, %hf3, H3⟩, ⟨%f4, %hf4, H4⟩, ⟨%f5, %hf5, H5⟩, ⟨%fs, %hfs, HS⟩, ⟨%fz, %hfz, HZ⟩⟩, Hk⟩
  sl_exec
  sl_step
  have r2 : View.readAt (Elt F) a2.view (Rect.unit ![0, 0] ![1024, 128] inb_S1024x128_S1024x128_0_0).toLoadRect f2 = x0 := (rd_load a2.view f2 _).trans hf2
  have r3 : View.readAt (Elt F) a3.view (Rect.unit ![0, 0] ![1024, 1] inb_S1024x1_S1024x1_0_0).toLoadRect f3 = x1 := (rd_load a3.view f3 _).trans hf3
  have r4 : View.readAt (Elt F) a4.view (Rect.unit ![0, 0] ![64, 4096] inb_S64x4096_S64x4096_0_0).toLoadRect f4 = x2 := (rd_load a4.view f4 _).trans hf4
  have rs : View.readAt (Elt F) a6.view (Rect.unit ![0, 0] ![1, 1024] inb_S1x1024_S1x1024_0_0).toLoadRect fs = s := (rd_load a6.view fs _).trans hfs
  have rz : View.readAt (Elt F) a7.view (Rect.unit ![0, 0] ![1, 1024] inb_S1x1024_S1x1024_0_0).toLoadRect fz = z := (rd_load a7.view fz _).trans hfz
  iapply Hk
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]
  · iexists _; isplitr; swap; · iexact H5
    ipureintro
    rw [rd_writes]; simp only [r2, r3, r4, rz]
  isplitl [HS]
  · iexists _; isplitr; swap; · iexact HS
    ipureintro
    exact hfs
  iexists _; isplitr; swap; · iexact HZ
  ipureintro
  exact hfz

end Run

end Cert.Proof

end
-- ==== Proof.RegionData.lean ====
/-
  The TensorCore kernel's pipeline: what its buffers may hold at each point, the body's obligation there, and what the
  result's array holds at the end.

  The last block of the vocabulary reaches past the array's edge, and what the kernel finds past it is not determined, so
  its buffers are described by what they MAY hold.
-/
module

public import proofs.«01_k».proof.Proof.Region
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.VecWindow

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx (ix2 eq_ix2)

variable {F : FTy → Type} [FloatOps F]

local notation "𝕄" => MT nD τ sig (SparseCore.Cfg.HIx 1) (Elt F) ℕ (UU F) ℕ

/-! ## What the kernel's buffers may hold along the grid -/

section Data

variable (c : Dev nD) (A0 : Buf (Elt F) ((c.tc : Thread nD τ).loc main_v2)) (A1 : Buf (Elt F) ((c.tc : Thread nD τ).loc main_v4))
  (A2 : Buf (Elt F) ((c.tc : Thread nD τ).loc main_v3)) (A3 : Buf (Elt F) ((c.tc : Thread nD τ).loc main_v5))

/-- The weights' block at point `t` as the kernel finds it: the columns inside the array, and past them anything. -/
def wBlk (t : Fin cfg1.N) (e : Vec F S64x4096 .f32) : Vec F S64x4096 .f32 :=
  (cfg1.win 2).fill (cfg1.grid.coords t) e (((cfg1.win 2).blk t).view.read (Elt F) A2)

/-- The first scratch may hold `s` when `n` blocks have been added. -/
def SumP : ℕ → Vec F S1x1024 .f32 → Prop
  | 0, s => s = k1_pay3
  | n + 1, s => ∃ (t : Fin cfg1.N) (s' : Vec F S1x1024 .f32) (e : Vec F S64x4096 .f32),
      t.val = n ∧ SumP n s' ∧ s = k1_pay4 (A0 : Vec F S1024x128 .f32) (A1 : Vec F S1024x1 .i32) (wBlk c A2 t e) s'

/-- The second scratch may hold `z` after the first pass. -/
def LogP (z : Vec F S1x1024 .f32) : Prop :=
  ∃ (t : Fin cfg1.N) (s : Vec F S1x1024 .f32) (e : Vec F S64x4096 .f32), t.val = 24 ∧ SumP c A0 A1 A2 24 s
    ∧ z = k1_pay5 (grid1.coords t) (A0 : Vec F S1024x128 .f32) (A1 : Vec F S1024x1 .i32) (wBlk c A2 t e) s

/-- At a point of the second pass the kernel may leave `X` as the block of the result. -/
def OutP (t : Fin cfg1.N) (X : Vec F S4096x1024 .f32) : Prop :=
  25 ≤ t.val → ∃ (e : Vec F S64x4096 .f32) (z : Vec F S1x1024 .f32), LogP c A0 A1 A2 z
    ∧ X = k1_pay1 (k1_pay2 (A0 : Vec F S1024x128 .f32) (A1 : Vec F S1024x1 .i32) (wBlk c A2 t e)) z

/-- The two scratches. -/
abbrev scS : Memref sig .tc .vmem S1x1024 .f32 := Memref.whole cc1_scratch0
abbrev scZ : Memref sig .tc .vmem S1x1024 .f32 := Memref.whole cc1_scratch1

/-- What holds before point `t`. -/
def Inv (t : ℕ) : sProp 𝕄 :=
  iprop(∃ (s z : Vec F S1x1024 .f32), ⌜(0 < t → t ≤ 24 → SumP c A0 A1 A2 t s) ∧ (25 ≤ t → LogP c A0 A1 A2 z)⌝
    ∗ owns (c.tc : Thread nD τ) scS fullShare s ∗ owns (c.tc : Thread nD τ) scZ fullShare z)

/-- The pipeline's proof data: the windows' arrays at entry, what the kernel may leave in their buffers, the invariant. -/
def rdat : Pipeline.RDat τ (Elt F) (HIx 1) ℕ (UU F) ℕ cfg1 c where
  A := fun | 0 => A0 | 1 => A1 | 2 => A2 | 3 => A3 | ⟨_ + 4, h⟩ => absurd h (Nat.not_lt.2 (Nat.le_add_left _ _))
  after := fun
    | 0 => fun _ _ X => X = A0
    | 1 => fun _ _ X => X = A1
    | 2 => fun _ Y X => X = Y
    | 3 => fun t _ X => OutP c A0 A1 A2 t X
    | ⟨_ + 4, h⟩ => absurd h (Nat.not_lt.2 (Nat.le_add_left _ _))
  Φ t := Inv c A0 A1 A2 t.val
  q _ := fullShare
  owed _ := 0
  recorded _ := {p | (K (F := F)).lev ((c.tc : Thread nD τ), p.1) p.2 ≤ 8}

/-- The first two windows are whole arrays: their buffers are filled with the arrays themselves. -/
theorem fetched0 (t : Fin cfg1.N) (e : Vec F S1024x128 .f32) : (rdat c A0 A1 A2 A3).fetched 0 t e = A0 := by
  funext j
  refine congrArg (A0 : S1024x128.Idx → F .f32) (funext fun a => Fin.ext ?_)
  match a with
  | 0 => show 0 * 1024 + 1 * (j 0).val = (j 0).val; omega
  | 1 => show 0 * 128 + 1 * (j 1).val = (j 1).val; omega
theorem fetched1 (t : Fin cfg1.N) (e : Vec F S1024x1 .i32) : (rdat c A0 A1 A2 A3).fetched 1 t e = A1 := by
  funext j
  refine congrArg (A1 : S1024x1.Idx → BitVec 32) (funext fun a => Fin.ext ?_)
  match a with
  | 0 => show 0 * 1024 + 1 * (j 0).val = (j 0).val; omega
  | 1 => show 0 * 1 + 1 * (j 1).val = (j 1).val; omega

/-- So what the kernel finds there at every point is the arrays. -/
theorem finds0 (t : Fin cfg1.N) (X : Vec F S1024x128 .f32) (h : (rdat c A0 A1 A2 A3).Finds 0 t X) : X = A0 := by
  by_cases hf : (cfg1.win 0).fetch t = true
  · obtain ⟨e, he⟩ := ((rdat c A0 A1 A2 A3).finds_of_fetch hf X).mp h
    exact he.trans (fetched0 c A0 A1 A2 A3 t e)
  · have ht : t.val ≠ 0 := fun h0 => hf ((fetch1_0 t).mpr (by rw [h0]))
    rcases ((rdat c A0 A1 A2 A3).finds_of_pos (Bool.eq_false_iff.mpr hf) ht X).mp h with hfl | ⟨Y, -, hY⟩
    · exact absurd hfl (by simp [Pipeline.Window.flush])
    · exact hY
theorem finds1 (t : Fin cfg1.N) (X : Vec F S1024x1 .i32) (h : (rdat c A0 A1 A2 A3).Finds 1 t X) : X = A1 := by
  by_cases hf : (cfg1.win 1).fetch t = true
  · obtain ⟨e, he⟩ := ((rdat c A0 A1 A2 A3).finds_of_fetch hf X).mp h
    exact he.trans (fetched1 c A0 A1 A2 A3 t e)
  · have ht : t.val ≠ 0 := fun h0 => hf ((fetch1_1 t).mpr (by rw [h0]))
    rcases ((rdat c A0 A1 A2 A3).finds_of_pos (Bool.eq_false_iff.mpr hf) ht X).mp h with hfl | ⟨Y, -, hY⟩
    · exact absurd hfl (by simp [Pipeline.Window.flush])
    · exact hY
theorem finds2 (t : Fin cfg1.N) (X : Vec F S64x4096 .f32) (h : (rdat c A0 A1 A2 A3).Finds 2 t X) : ∃ e, X = wBlk c A2 t e :=
  ((rdat c A0 A1 A2 A3).finds_of_fetch (fetch1_2 t) X).mp h

/-! ## The body's obligation -/

theorem coords0 : ∀ t : Fin grid1.N, ((grid1.coords t) 0).val = t.val / 25 := by decide
theorem coords1 : ∀ t : Fin grid1.N, ((grid1.coords t) 1).val = t.val % 25 := by decide

theorem defs₀_row (t : Fin cfg1.N) : defs₀ (F := F) .tc cfg1.body (cfg1.bodyArgs t (cfg1.slots t)) = bodyAt1 t := by
  unfold defs₀; rfl

theorem body_obl (ι : HIx 1) : (rdat c A0 A1 A2 A3).BodyObligation (defs₀ (F := F)) 𝒱₀ ι Set.univ := by
  intro t Y hY
  have hN : t.val < 50 := lt_of_lt_of_eq t.isLt N_1
  have y0 := finds0 c A0 A1 A2 A3 t (Y 0) (hY 0)
  have y1 := finds1 c A0 A1 A2 A3 t (Y 1) (hY 1)
  obtain ⟨e, y2⟩ := finds2 c A0 A1 A2 A3 t (Y 2) (hY 2)
  rw [defs₀_row, bigSep_W1, bigSep_W1]
  show iprop(Inv c A0 A1 A2 t.val ∗ (rdat c A0 A1 A2 A3).owesAt ι t.castSucc
      ∗ (owns (c.tc : Thread nD τ) (st1_0 t) fullShare (Y 0) ∗ owns (c.tc : Thread nD τ) (st1_1 t) fullShare (Y 1)
        ∗ owns (c.tc : Thread nD τ) (st1_2 t) fullShare (Y 2) ∗ owns (c.tc : Thread nD τ) (st1_3 t) fullShare (Y 3)))
    ⊢ wp Idealize.ShloMosaic.frame (wpE (defs₀ (F := F)) 𝒱₀ c.tc none) Set.univ (bodyAt1 t) fun _ =>
      iprop(Inv c A0 A1 A2 (t.val + 1) ∗ (rdat c A0 A1 A2 A3).owesAt ι t.castSucc
        ∗ (∃ X, ⌜X = A0⌝ ∗ owns (c.tc : Thread nD τ) (st1_0 t) fullShare X) ∗ (∃ X, ⌜X = A1⌝ ∗ owns (c.tc : Thread nD τ) (st1_1 t) fullShare X)
        ∗ (∃ X, ⌜X = Y 2⌝ ∗ owns (c.tc : Thread nD τ) (st1_2 t) fullShare X)
        ∗ (∃ X, ⌜OutP c A0 A1 A2 t X⌝ ∗ owns (c.tc : Thread nD τ) (st1_3 t) fullShare X))
  rw [y0, y1, y2]
  have c0 := coords0 t
  have c1 := coords1 t
  have done : ∀ (s z : Vec F S1x1024 .f32) (X : Vec F S4096x1024 .f32),
      ((0 < t.val + 1 → t.val + 1 ≤ 24 → SumP c A0 A1 A2 (t.val + 1) s) ∧ (25 ≤ t.val + 1 → LogP c A0 A1 A2 z)) → OutP c A0 A1 A2 t X →
      iprop(bufs c (st1_0 t) (st1_1 t) (st1_2 t) (st1_3 t) scS scZ A0 A1 (wBlk c A2 t e) X s z ∗ (rdat c A0 A1 A2 A3).owesAt ι t.castSucc)
      ⊢ iprop(Inv c A0 A1 A2 (t.val + 1) ∗ (rdat c A0 A1 A2 A3).owesAt ι t.castSucc
        ∗ (∃ X, ⌜X = A0⌝ ∗ owns (c.tc : Thread nD τ) (st1_0 t) fullShare X) ∗ (∃ X, ⌜X = A1⌝ ∗ owns (c.tc : Thread nD τ) (st1_1 t) fullShare X)
        ∗ (∃ X, ⌜X = wBlk c A2 t e⌝ ∗ owns (c.tc : Thread nD τ) (st1_2 t) fullShare X)
        ∗ (∃ X, ⌜OutP c A0 A1 A2 t X⌝ ∗ owns (c.tc : Thread nD τ) (st1_3 t) fullShare X)) := by
    intro s z X hI hX
    unfold bufs Inv
    iintro ⟨⟨H0, H1, H2, H3, HS, HZ⟩, HO⟩
    isplitl [HS HZ]
    · iexists s, z
      isplitr; · ipureintro; exact hI
      isplitl [HS] <;> iassumption
    isplitl [HO]; · iexact HO
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    iexists X; isplitr; swap; · iexact H3
    ipureintro; exact hX
  unfold Inv
  iintro ⟨⟨%s, %z, %hI, HS, HZ⟩, HO, H0, H1, H2, H3⟩
  obtain ⟨hs, hz⟩ := hI
  rcases (by omega : t.val = 0 ∨ (0 < t.val ∧ t.val < 24) ∨ t.val = 24 ∨ 25 ≤ t.val) with h | ⟨h, h'⟩ | h | h
  · iapply (run_first c (grid1.coords t) (st1_0 t) _ (st1_1 t) _ (st1_2 t) _ (st1_3 t) _ scS _ scZ _ A0 A1 (wBlk c A2 t e) (Y 3) s z (by rw [c0]; omega) (by rw [c1]; omega) _)
    isplitl [HS HZ H0 H1 H2 H3]
    · unfold bufs; isplitl [H0]; · iexact H0
      isplitl [H1]; · iexact H1
      isplitl [H2]; · iexact H2
      isplitl [H3]; · iexact H3
      isplitl [HS] <;> iassumption
    iintro H
    iapply (done _ _ _ ⟨fun _ _ => ⟨t, k1_pay3, e, rfl, (by rw [h]; rfl), rfl⟩, fun h' => by omega⟩ (fun h' => by omega))
    isplitl [H] <;> iassumption
  · iapply (run_mid c (grid1.coords t) (st1_0 t) _ (st1_1 t) _ (st1_2 t) _ (st1_3 t) _ scS _ scZ _ A0 A1 (wBlk c A2 t e) (Y 3) s z (by rw [c0]; omega) (by rw [c1]; omega) (by rw [c1]; omega) _)
    isplitl [HS HZ H0 H1 H2 H3]
    · unfold bufs; isplitl [H0]; · iexact H0
      isplitl [H1]; · iexact H1
      isplitl [H2]; · iexact H2
      isplitl [H3]; · iexact H3
      isplitl [HS] <;> iassumption
    iintro H
    iapply (done _ _ _ ⟨fun _ _ => ⟨t, s, e, rfl, hs h (by omega), rfl⟩, fun h' => by omega⟩ (fun h' => by omega))
    isplitl [H] <;> iassumption
  · iapply (run_last c (grid1.coords t) (st1_0 t) _ (st1_1 t) _ (st1_2 t) _ (st1_3 t) _ scS _ scZ _ A0 A1 (wBlk c A2 t e) (Y 3) s z (by rw [c0]; omega) (by rw [c1]; omega) _)
    isplitl [HS HZ H0 H1 H2 H3]
    · unfold bufs; isplitl [H0]; · iexact H0
      isplitl [H1]; · iexact H1
      isplitl [H2]; · iexact H2
      isplitl [H3]; · iexact H3
      isplitl [HS] <;> iassumption
    iintro H
    iapply (done _ _ _ ⟨fun _ h' => by omega, fun _ => ⟨t, s, e, h, h ▸ hs (by omega) (by omega), rfl⟩⟩ (fun h' => by omega))
    isplitl [H] <;> iassumption
  · iapply (run_out c (grid1.coords t) (st1_0 t) _ (st1_1 t) _ (st1_2 t) _ (st1_3 t) _ scS _ scZ _ A0 A1 (wBlk c A2 t e) (Y 3) s z (by rw [c0]; omega) _)
    isplitl [HS HZ H0 H1 H2 H3]
    · unfold bufs; isplitl [H0]; · iexact H0
      isplitl [H1]; · iexact H1
      isplitl [H2]; · iexact H2
      isplitl [H3]; · iexact H3
      isplitl [HS] <;> iassumption
    iintro H
    iapply (done _ _ _ ⟨fun _ h' => by omega, fun _ => hz h⟩ (fun _ => ⟨e, z, hz h, rfl⟩))
    isplitl [H] <;> iassumption

end Data

end Cert.Proof

end
-- ==== Proof.RegionRun.lean ====
/-
  The TensorCore kernel's call, as one step of `@main`: from the arrays it reads and the array it writes, to the same
  arrays with the result at contents its write-backs may leave.
-/
module

public import proofs.«01_k».proof.Proof.RegionData
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.VecWindow

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx (ix2 eq_ix2)

variable {F : FTy → Type} [FloatOps F]

local notation "𝕄" => MT nD τ sig (SparseCore.Cfg.HIx 1) (Elt F) ℕ (UU F) ℕ

abbrev adm : (p : Fin 1) → (pcfgs (F := F) p).Adm := fun p => (cfgs p).toPCfg_adm

section Call

variable (A0 : (d : Dev nD) → Buf (Elt F) ((d.tc : Thread nD τ).loc main_v2)) (A1 : (d : Dev nD) → Buf (Elt F) ((d.tc : Thread nD τ).loc main_v4))
  (A2 : (d : Dev nD) → Buf (Elt F) ((d.tc : Thread nD τ).loc main_v3)) (A3 : (d : Dev nD) → Buf (Elt F) ((d.tc : Thread nD τ).loc main_v5))

def rdats (p : Fin 1) (d : Dev nD) : Pipeline.RDat τ (Elt F) (HIx 1) ℕ (UU F) ℕ (Pipeline.pin (pcfgs (F := F)) adm p) d :=
  rdat d (A0 d) (A1 d) (A2 d) (A3 d)

/-- The thread holds the kernel's four arrays and owes nothing. -/
def callPre (d : Dev nD) : sProp 𝕄 :=
  iprop(((d.tc : Thread nD τ).loc main_v2 ↦{fullShare} A0 d) ∗ ((d.tc : Thread nD τ).loc main_v4 ↦{fullShare} A1 d)
    ∗ ((d.tc : Thread nD τ).loc main_v3 ↦{fullShare} A2 d) ∗ ((d.tc : Thread nD τ).loc main_v5 ↦{fullShare} A3 d)
    ∗ ∃ W, ⌜(K (F := F)).WBelow (d.tc : Thread nD τ) W 8⌝ ∗ owes (d.tc : Thread nD τ) 0 W)
/-- After it the result's array is at contents the write-backs may have left. -/
def callPost (d : Dev nD) : sProp 𝕄 :=
  iprop(((d.tc : Thread nD τ).loc main_v2 ↦{fullShare} A0 d) ∗ ((d.tc : Thread nD τ).loc main_v4 ↦{fullShare} A1 d)
    ∗ ((d.tc : Thread nD τ).loc main_v3 ↦{fullShare} A2 d)
    ∗ (∃ G, ⌜(rdat d (A0 d) (A1 d) (A2 d) (A3 d)).ArrAt 3 50 G⌝ ∗ ((d.tc : Thread nD τ).loc main_v5 ↦{fullShare} G))
    ∗ ∃ W, ⌜(K (F := F)).WBelow (d.tc : Thread nD τ) W 8⌝ ∗ owes (d.tc : Thread nD τ) 0 W)

theorem win_set (w : Fin 4) : (cfg1.win w).arr.view.set = Finset.univ :=
  match w with
  | 0 => View.set_whole main_v2
  | 1 => View.set_whole main_v4
  | 2 => View.set_whole main_v3
  | 3 => View.set_whole main_v5
  | ⟨_ + 4, h⟩ => absurd h (Nat.not_lt.2 (Nat.le_add_left _ _))

theorem win_pts (d : Dev nD) (w : Fin 4) (G : Buf (Elt F) ((cfg1.win w).arr.view.loc (d.tc : Thread nD τ))) :
    ((cfg1.win w).arr.view.loc (d.tc : Thread nD τ) ↦[(cfg1.win w).arr.view.set]{(rdat d (A0 d) (A1 d) (A2 d) (A3 d)).share w} G : sProp 𝕄)
      = ((cfg1.win w).arr.view.loc (d.tc : Thread nD τ) ↦{fullShare} G) := by
  rw [win_set, Pipeline.RDat.share_full _ (fun _ => rfl)]

theorem arrays_intro (d : Dev nD) :
    iprop(((d.tc : Thread nD τ).loc main_v2 ↦{fullShare} A0 d) ∗ ((d.tc : Thread nD τ).loc main_v4 ↦{fullShare} A1 d)
      ∗ ((d.tc : Thread nD τ).loc main_v3 ↦{fullShare} A2 d) ∗ ((d.tc : Thread nD τ).loc main_v5 ↦{fullShare} A3 d))
      ⊢ (rdat d (A0 d) (A1 d) (A2 d) (A3 d)).arrays (rdat d (A0 d) (A1 d) (A2 d) (A3 d)).A :=
  Entails.of_eq ((bigSep_congr fun w _ => win_pts A0 A1 A2 A3 d w ((rdat d (A0 d) (A1 d) (A2 d) (A3 d)).A w)).trans (bigSep_W1 _)).symm

theorem arraysAt_eq (d : Dev nD) :
    (rdat d (A0 d) (A1 d) (A2 d) (A3 d)).arraysAt 50
    = iprop((∃ G, ⌜(rdat d (A0 d) (A1 d) (A2 d) (A3 d)).ArrAt 0 50 G⌝ ∗ ((d.tc : Thread nD τ).loc main_v2 ↦{fullShare} G))
      ∗ (∃ G, ⌜(rdat d (A0 d) (A1 d) (A2 d) (A3 d)).ArrAt 1 50 G⌝ ∗ ((d.tc : Thread nD τ).loc main_v4 ↦{fullShare} G))
      ∗ (∃ G, ⌜(rdat d (A0 d) (A1 d) (A2 d) (A3 d)).ArrAt 2 50 G⌝ ∗ ((d.tc : Thread nD τ).loc main_v3 ↦{fullShare} G))
      ∗ (∃ G, ⌜(rdat d (A0 d) (A1 d) (A2 d) (A3 d)).ArrAt 3 50 G⌝ ∗ ((d.tc : Thread nD τ).loc main_v5 ↦{fullShare} G))) :=
  (bigSep_congr fun w _ => congrArg BI.BIBase.exists (funext fun G => congrArg (fun X => iprop(⌜(rdat d (A0 d) (A1 d) (A2 d) (A3 d)).ArrAt w 50 G⌝ ∗ X)) (win_pts A0 A1 A2 A3 d w G))).trans
    (bigSep_W1 _)

theorem arrays_elim (d : Dev nD) :
    (rdat d (A0 d) (A1 d) (A2 d) (A3 d)).arraysAt 50
    ⊢ iprop(((d.tc : Thread nD τ).loc main_v2 ↦{fullShare} A0 d) ∗ ((d.tc : Thread nD τ).loc main_v4 ↦{fullShare} A1 d)
      ∗ ((d.tc : Thread nD τ).loc main_v3 ↦{fullShare} A2 d)
      ∗ (∃ G, ⌜(rdat d (A0 d) (A1 d) (A2 d) (A3 d)).ArrAt 3 50 G⌝ ∗ ((d.tc : Thread nD τ).loc main_v5 ↦{fullShare} G))) := by
  rw [arraysAt_eq]
  iintro ⟨⟨%G0, %h0, H0⟩, ⟨%G1, %h1, H1⟩, ⟨%G2, %h2, H2⟩, H3⟩
  rw [(rdat d (A0 d) (A1 d) (A2 d) (A3 d)).ArrAt_in 0 rfl] at h0
  rw [(rdat d (A0 d) (A1 d) (A2 d) (A3 d)).ArrAt_in 1 rfl] at h1
  rw [(rdat d (A0 d) (A1 d) (A2 d) (A3 d)).ArrAt_in 2 rfl] at h2
  have e0 : G0 = A0 d := h0
  have e1 : G1 = A1 d := h1
  have e2 : G2 = A2 d := h2
  subst e0 e1 e2
  isplitl [H0]; · iexact H0
  isplitl [H1]; · iexact H1
  isplitl [H2]; · iexact H2
  iexact H3

theorem scoped_inv (d : Dev nD) :
    (Pipeline.scopedRest (Ix := HIx 1) (Name := ℕ) (U := UU F) (Lvl := ℕ) (Val := Elt F) spec1 d : sProp 𝕄) ⊢ Inv d (A0 d) (A1 d) (A2 d) 0 := by
  rw [scopedRest1_eq]
  unfold Inv
  iintro ⟨⟨%s, Hs⟩, %z, Hz⟩
  iexists s; iexists z
  isplitr; · ipureintro; exact ⟨fun h => absurd h (by omega), fun h => absurd h (by omega)⟩
  isplitl [Hs]
  · rw [owns_whole]; iexact Hs
  · rw [owns_whole]; iexact Hz
theorem inv_scoped (d : Dev nD) (t : ℕ) :
    Inv d (A0 d) (A1 d) (A2 d) t ⊢ (Pipeline.scopedRest (Ix := HIx 1) (Name := ℕ) (U := UU F) (Lvl := ℕ) (Val := Elt F) spec1 d : sProp 𝕄) := by
  rw [scopedRest1_eq]
  unfold Inv
  iintro ⟨%s, %z, -, Hs, Hz⟩
  isplitl [Hs]
  · iexists s; iapply (Entails.of_eq (owns_whole (d.tc : Thread nD τ) cc1_scratch0 fullShare s)) $$ Hs
  · iexists z; iapply (Entails.of_eq (owns_whole (d.tc : Thread nD τ) cc1_scratch1 fullShare z)) $$ Hz

theorem call_exit (d : Dev nD) :
    iprop((rdat d (A0 d) (A1 d) (A2 d) (A3 d)).arraysAt 50 ∗ (rdat d (A0 d) (A1 d) (A2 d) (A3 d)).owesAt none (Fin.last _) ∗ emp ∗ emp)
      ⊢ |={Set.univ}=> callPost A0 A1 A2 A3 d := by
  unfold callPost
  iintro ⟨Ha, HO, -, -⟩
  imodintro
  ihave Hb := (arrays_elim A0 A1 A2 A3 d) $$ Ha
  icases Hb with ⟨H0, H1, H2, H3⟩
  isplitl [H0]; · iexact H0
  isplitl [H1]; · iexact H1
  isplitl [H2]; · iexact H2
  isplitl [H3]; · iexact H3
  unfold Pipeline.RDat.owesAt Pipeline.owesWithin
  icases HO with ⟨%W, %hW, HO⟩
  iexists W
  isplitr
  · ipureintro
    intro p hp
    rcases hW hp with h | ⟨w, s, h⟩
    · exact h
    · rw [h]; exact Nat.zero_le _
  iexact HO

set_option backward.isDefEq.respectTransparency.types false in
/-- The call as a region of `@main`. -/
def seg : Pipeline.RDat.RegionSeg (pcfgs (F := F)) adm (rdats A0 A1 A2 A3) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := body_obl d (A0 d) (A1 d) (A2 d) (A3 d) none
  hwaits := Pipeline.RDat.hwaits_of_owed_zero _ _ _ _ _ _ 0 fun _ _ => rfl
  pre := callPre A0 A1 A2 A3
  post := callPost A0 A1 A2 A3
  X _ := BI.emp
  Y _ := BI.emp
  Z _ := BI.emp
  hentry d := by
    rw [Pipeline.ownSems0_none]
    unfold callPre
    iintro ⟨⟨H0, H1, H2, H3, %W, %hW, HO⟩, -, -⟩
    imodintro
    isplitl [H0 H1 H2 H3]
    · iapply (show _ ⊢ (rdats A0 A1 A2 A3 0 d).arrays (rdats A0 A1 A2 A3 0 d).A from arrays_intro A0 A1 A2 A3 d)
      isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.RDat.owesAt Pipeline.owesWithin
      iexists W; isplitr
      · ipureintro; exact fun p hp => Or.inl (hW p hp)
      iexact HO
    isplitr <;> iempintro
  hin d := by
    rw [show (rdats A0 A1 A2 A3 0 d).Φ 0 = Inv d (A0 d) (A1 d) (A2 d) 0 from rfl]
    iintro ⟨-, -, Hr⟩
    iapply (scoped_inv A0 A1 A2 d)
    iexact Hr
  hout d := by
    rw [Pipeline.ownSems0_none, show (rdats A0 A1 A2 A3 0 d).Φ (Fin.last _) = Inv d (A0 d) (A1 d) (A2 d) cfg1.N from rfl]
    iintro Hr
    isplitr; · iempintro
    isplitr; · iempintro
    iapply (inv_scoped A0 A1 A2 d _)
    iexact Hr
  hexit d := call_exit A0 A1 A2 A3 d

end Call

end Cert.Proof

end
-- ==== Proof.TileValue.lean ====
/-
  Which elements the tile's blocks, slots and list are, and that what it writes out is the gathered rows.
-/
module

public import proofs.«01_k».proof.Proof.Common
public import Idealize.ShloMosaic.Lib.Pipeline.Value

@[expose] public section

noncomputable section

namespace Cert.Proof

open Cert.KernelIdeal Cert.KernelIdeal.Gen
open Cert.Proof.Tile
open Idealize.ShloMosaic
open Idealize.ShloMosaic.SparseCore (S V T)
open Idealize.ShloMosaic.ValueIdx (ix2 eq_ix2)

variable {F : FTy → Type} [FloatOps F]

abbrev tblV : Memref sig .scVector .hbm S50000x128 .f32 := Memref.whole main_v0_scv
abbrev idxV : Memref sig .scVector .hbm S1x1024 .i32 := Memref.whole main_v1_scv
abbrev outV : Memref sig .scVector .hbm S1024x128 .f32 := Memref.whole main_v2_scv
abbrev lstV : Memref sig .scVector .vmem S1x128 .i32 := Memref.whole cc0_scratch0
abbrev bufIV : Memref sig .scVector .vmem S2x1x128 .i32 := Memref.whole cc0_scoped0
abbrev bufRV : Memref sig .scVector .vmem S2x128x128 .f32 := Memref.whole cc0_scoped2

variable (L : grid0.Coords)

/-- Word `x` of the list is word `x` of the row that holds it. -/
theorem list_emb (x : S128.Idx) : (listI lstV).view.emb x = (ix2 (0 : Fin 1) (x 0) : S1x128.Idx) := by
  have : ∀ x : S128.Idx, (listI lstV).view.emb x = (ix2 (0 : Fin 1) (x 0) : S1x128.Idx) := by decide +kernel
  exact this x

theorem idx_row_lt (hb : Busy L) (x : Fin 128) : 128 * (L 1).val + x.val < 1024 := by have := hb; have := x.isLt; unfold Busy at *; omega

/-- Word `x` of the tile's block of the indices. -/
theorem idxBlk_emb (hb : Busy L) (x : S1x128.Idx) :
    (idxBlk L idxV hb).view.emb x = (ix2 (0 : Fin 1) ⟨128 * (L 1).val + (x 1).val, idx_row_lt L hb (x 1)⟩ : S1x1024.Idx) := by
  funext a
  apply Fin.ext
  match a with
  | 0 => have h : (x 0).val = 0 := Nat.lt_one_iff.mp (x 0).isLt
         change 0 + 1 * (x 0).val = 0; omega
  | 1 => change 128 * (L 1).val + 1 * (x 1).val = 128 * (L 1).val + (x 1).val; omega

/-- Element `x` of the tile's block of the result. -/
theorem outBlk_emb (hb : Busy L) (x : S128x128.Idx) :
    (outBlk L outV hb).view.emb x = (ix2 ⟨128 * (L 1).val + (x 0).val, idx_row_lt L hb (x 0)⟩ (x 1) : S1024x128.Idx) := by
  funext a
  apply Fin.ext
  match a with
  | 0 => change 128 * (L 1).val + 1 * (x 0).val = 128 * (L 1).val + (x 0).val; omega
  | 1 => change 0 + 1 * (x 1).val = (x 1).val; omega

/-- The whole table through its slice. -/
theorem tblAll_emb (x : S50000x128.Idx) : (tblAll tblV).view.emb x = x := by
  funext a
  apply Fin.ext
  match a with
  | 0 => change 0 + 1 * (x 0).val = (x 0).val; omega
  | 1 => change 0 + 1 * (x 1).val = (x 1).val; omega

/-- The block's elements are those of block `w`. -/
theorem outBlk_set (d : Dev nD) (hb : Busy L) : (outBlk L outV hb).view.set = blk d (Fin.cast (rfl : grid0.bound 1 = 16) (L 1)) := by
  ext j
  unfold blk
  unfold View.set
  rw [Finset.mem_filter, Finset.mem_map]
  constructor
  · rintro ⟨x, -, rfl⟩
    refine ⟨Finset.mem_univ _, ?_⟩
    rw [outBlk_emb]
    have := (x 0).isLt
    change (128 * (L 1).val + (x 0).val) / 128 = (L 1).val
    have h : (x 0).val < 128 := (x 0).isLt
    omega
  · rintro ⟨-, h⟩
    have h : (j 0).val / 128 = (L 1).val := h
    refine ⟨(ix2 ⟨(j 0).val % 128, Nat.mod_lt _ (by omega)⟩ (j 1) : S128x128.Idx), Finset.mem_univ _, ?_⟩
    rw [outBlk_emb]
    funext a
    apply Fin.ext
    match a with
    | 0 => change 128 * (L 1).val + (j 0).val % 128 = (j 0).val; omega
    | 1 => rfl

/-- A tile with nothing to do has no block. -/
theorem blk_idle (d : Dev nD) (hb : ¬Busy L) : blk d (Fin.cast (rfl : grid0.bound 1 = 16) (L 1)) = ∅ := by
  unfold blk
  rw [Finset.filter_eq_empty_iff]
  intro j _ h
  have h : (j 0).val / 128 = (L 1).val := h
  have hj : (j 0).val < 1024 := (j 0).isLt
  exact hb (by unfold Busy; omega)

/-- What the fetch of the indices lands. -/
theorem fetched_apply (hb : Busy L) (d : Dev nD) (ix : Buf (Elt F) (idxLoc d)) (x : S1x128.Idx) :
    (idxBlk L idxV hb).view.read (Elt F) ix x = ix (ix2 (0 : Fin 1) ⟨128 * (L 1).val + (x 1).val, idx_row_lt L hb (x 1)⟩ : S1x1024.Idx) := by
  rw [View.read_apply, idxBlk_emb]; rfl

/-- One trip's stored words: the loaded ones, each halved. -/
theorem pay1_apply (x : Vec F S1x16 .i32) (y : S1x16.Idx) : k0_pay1 x y = (x y : BitVec 32) >>> 1 := by
  unfold k0_pay1
  show shapeCast S1x16 (fun y => shrui (shapeCast S1x16 x _) _ y) _ y = _
  rw [Idealize.ShloMosaic.shapeCast_self, Idealize.ShloMosaic.shapeCast_self]
  rfl

/-- Halving one index that is in range gives a row of the table. -/
theorem half_lt (v : BitVec 32) (h : v.toNat < 100000) : (v >>> 1).toNat < 50000 := by
  rw [BitVec.toNat_ushiftRight, Nat.shiftRight_eq_div_pow]; omega

theorem half_toNat (v : BitVec 32) : (v >>> 1).toNat = v.toNat / 2 := by
  rw [BitVec.toNat_ushiftRight, Nat.shiftRight_eq_div_pow]

/-- The list, once every word of it is halved. -/
theorem list_read (hb : Busy L) (d : Dev nD) (ix : Buf (Elt F) (idxLoc d)) (f : S1x128.Idx → BitVec 32)
    (hf : ∀ j : S1x128.Idx, f j = ((idxBlk L idxV hb).view.read (Elt F) ix j : BitVec 32) >>> 1) (x : S128.Idx) :
    (View.read (Elt F) (listI lstV).view f x : BitVec 32)
      = (show BitVec 32 from ix (ix2 (0 : Fin 1) ⟨128 * (L 1).val + (x 0).val, idx_row_lt L hb (x 0)⟩ : S1x1024.Idx)) >>> 1 := by
  rw [View.read_apply, list_emb]
  show f _ = _
  rw [hf, fetched_apply]

/-- The gathered block is the tile's block of the gathered rows. -/
theorem gather_value (hb : Busy L) (d : Dev nD) (tb : Buf (Elt F) (tblLoc d)) (ix : Buf (Elt F) (idxLoc d)) (f : S1x128.Idx → BitVec 32)
    (hf : ∀ j : S1x128.Idx, f j = ((idxBlk L idxV hb).view.read (Elt F) ix j : BitVec 32) >>> 1)
    (hix : ∀ j : S1x1024.Idx, (ix j : BitVec 32).toNat < 100000)
    (hn : S128.numel = S128x128.size gathers_S50000x128_S128x128.axis')
    (h : ∀ x : S128.Idx, (View.read (Elt F) (listI lstV).view f x : BitVec 32).toNat < S50000x128.size gathers_S50000x128_S128x128.axis) (x : S128x128.Idx) :
    SparseCore.gatherPayload gathers_S50000x128_S128x128 (View.read (Elt F) (tblAll tblV).view tb) (SparseCore.rows (View.read (Elt F) (listI lstV).view f) hn h) x
      = gathered d tb ix ((outBlk L outV hb).view.emb x) := by
  unfold SparseCore.gatherPayload gathered
  rw [outBlk_emb, View.read_apply, tblAll_emb]
  show tb _ = tb _
  congr 1
  funext a
  apply Fin.ext
  match a with
  | 0 =>
    have e := Shape.Gathers.idx_axis gathers_S50000x128_S128x128 (SparseCore.rows (View.read (Elt F) (listI lstV).view f) hn h) x
    refine (congrArg Fin.val e).trans ?_
    show (View.read (Elt F) (listI lstV).view f _ : BitVec 32).toNat = _ % 50000
    rw [list_read L hb d ix f hf, half_toNat]
    have hv := hix (ix2 (0 : Fin 1) ⟨128 * (L 1).val + (x 0).val, idx_row_lt L hb (x 0)⟩ : S1x1024.Idx)
    have er : ∀ k : Fin S128.numel, ((S128.rowMajor.symm k) 0).val = k.val := by decide +kernel
    have hk : (⟨128 * (L 1).val + ((S128.rowMajor.symm (Fin.cast hn.symm (x gathers_S50000x128_S128x128.axis'))) 0).val, idx_row_lt L hb _⟩ : Fin 1024)
        = ⟨128 * (L 1).val + (x 0).val, idx_row_lt L hb (x 0)⟩ := Fin.ext (congrArg (128 * (L 1).val + ·) (er _))
    refine Eq.trans (congrArg (fun r : Fin 1024 => (ix (ix2 (0 : Fin 1) r : S1x1024.Idx) : BitVec 32).toNat / 2) hk) ?_
    exact (Nat.mod_eq_of_lt (Nat.div_lt_of_lt_mul hv)).symm
  | 1 =>
    have e := Shape.Gathers.idx_of_ne gathers_S50000x128_S128x128 (SparseCore.rows (View.read (Elt F) (listI lstV).view f) hn h) x (1 : Fin 2) (by decide)
    exact e

end Cert.Proof

end
-- ==== Proof.Tile.lean ====
/-
  One tile of the gather. A busy tile `(c, w)` fetches block `w` of the indices, halves each, gathers those rows of the
  table and writes them to block `w` of the result, whose every element then holds its target.
-/
module

public import proofs.«01_k».proof.Proof.TileValue

@[expose] public section

noncomputable section

namespace Cert.Proof

open Cert.KernelIdeal Cert.KernelIdeal.Gen
open Cert.Proof.Tile
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx (ix2 eq_ix2)

variable {F : FTy → Type} [FloatOps F]

local notation "𝕄" => MT nD τ sig (SparseCore.Cfg.HIx 1) (Elt F) ℕ (UU F) ℕ

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-! ## The tile's own semaphores and buffers -/

abbrev cellIn (d : Dev nD) (c : Fin τ.nSC) (i : Fin τ.nSub) : GSem nD τ sig := (V d c i, .dma (cell0 cc0_scoped1))
abbrev cellOut (d : Dev nD) (c : Fin τ.nSC) (i : Fin τ.nSub) : GSem nD τ sig := (V d c i, .dma (cell0 cc0_scoped3))
abbrev cellG (d : Dev nD) (c : Fin τ.nSC) (i : Fin τ.nSub) : GSem nD τ sig := (V d c i, .dma cc0_scoped4.sem)

omit [FloatOps F] in
theorem ownSems0_V :
    (ownSems0 (V d (cV L) (jV L)) : sProp 𝕄)
      = iprop(semVal (cellIn d (cV L) (jV L)) 0 ∗ semVal (cellOut d (cV L) (jV L)) 0 ∗ semVal (cellG d (cV L) (jV L)) 0
          ∗ bigSep ((((ownCells (V d (cV L) (jV L))).erase (cellIn d (cV L) (jV L))).erase (cellOut d (cV L) (jV L))).erase (cellG d (cV L) (jV L))) fun g => semVal g 0) := by
  unfold SparseCore.Cfg.ownSems0
  have h1 : cell0 cc0_scoped1 ≠ cell0 cc0_scoped3 := by decide
  have h2 : cell0 cc0_scoped3 ≠ cc0_scoped4.sem := by decide
  have h3 : cell0 cc0_scoped1 ≠ cc0_scoped4.sem := by decide
  rw [SparseCore.bigSep_erase' ((mem_ownCells (g := cellIn d (cV L) (jV L))).mpr ⟨rfl, by
      show (SemLoc.dma (cell0 cc0_scoped1) : SemLoc sig).isScoped .scVector = true; decide⟩),
    SparseCore.bigSep_erase' (Finset.mem_erase.mpr ⟨fun e => h1 (SemLoc.dma.inj (congrArg Prod.snd e)).symm, (mem_ownCells (g := cellOut d (cV L) (jV L))).mpr ⟨rfl, by
      show (SemLoc.dma (cell0 cc0_scoped3) : SemLoc sig).isScoped .scVector = true; decide⟩⟩),
    SparseCore.bigSep_erase' (Finset.mem_erase.mpr ⟨fun e => h2 (SemLoc.dma.inj (congrArg Prod.snd e)).symm, Finset.mem_erase.mpr ⟨fun e => h3 (SemLoc.dma.inj (congrArg Prod.snd e)).symm,
      (mem_ownCells (g := cellG d (cV L) (jV L))).mpr ⟨rfl, by show (SemLoc.dma cc0_scoped4.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scoped0 ↦{fullShare} f)
          ∗ (∃ f, (V d (cV L) (jV L)).loc cc0_scoped2 ↦{fullShare} f)
          ∗ bigSep ((((ownRefs (τ := τ) (.scVector (cV L) (jV L))).erase ((Proc.scVector (cV L) (jV L)).devRef cc0_scratch0)).erase
              ((Proc.scVector (cV L) (jV L)).devRef cc0_scoped0)).erase ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scoped0 : Ref sig .scVector) ≠ cc0_scratch0 by decide),
    SparseCore.Cfg.mem_ownRefs_of_owner (p := Proc.scVector (cV L) (jV L)) (b := (Proc.scVector (cV L) (jV L)).devRef cc0_scoped0) rfl⟩),
    SparseCore.bigSep_erase' (Finset.mem_erase.mpr ⟨fun e => absurd (Proc.devRef_injective _ e) (show (cc0_scoped2 : Ref sig .scVector) ≠ cc0_scoped0 by decide),
    Finset.mem_erase.mpr ⟨fun e => absurd (Proc.devRef_injective _ e) (show (cc0_scoped2 : Ref sig .scVector) ≠ cc0_scratch0 by decide),
    SparseCore.Cfg.mem_ownRefs_of_owner (p := Proc.scVector (cV L) (jV L)) (b := (Proc.scVector (cV L) (jV L)).devRef cc0_scoped2) rfl⟩⟩)]

/-! ## What the tile is handed -/

variable (tb : (d : Dev nD) → Buf (Elt F) (tblLoc d)) (ix : (d : Dev nD) → Buf (Elt F) (idxLoc d)) (f₀ : (d : Dev nD) → Buf (Elt F) (outLoc d))

/-- Tile `(c, i)`'s share of what all tiles read. -/
abbrev tq (c : Fin 2) (i : Fin 16) : PosShare TreeShare := ShareLeaves.leaf 4 (half c) i
abbrev tblPts (d : Dev nD) (q : PosShare TreeShare) : sProp 𝕄 := tblLoc d ↦{q} tb d
abbrev idxPts (d : Dev nD) (q : PosShare TreeShare) : sProp 𝕄 := idxLoc d ↦{q} ix d
/-- Elements `I` of the result in write mode, those of `W` written. -/
abbrev outWm (d : Dev nD) (c : Fin 2) (I W : Finset (Idx (outLoc d))) : sProp 𝕄 :=
  willBeTo EW (outLoc d) I (half c) (f₀ d) (fun j => some (gathered d (tb d) (ix d) j)) W

theorem pts_tblV (q : PosShare TreeShare) (f : Buf (Elt F) (tblLoc d)) :
    ((tblV).view.loc (V d (cV L) (jV L)) ↦{q} f : sProp 𝕄) = tblLoc d ↦{q} f := rfl
theorem pts_idxV (q : PosShare TreeShare) (f : Buf (Elt F) (idxLoc d)) :
    ((idxV).view.loc (V d (cV L) (jV L)) ↦{q} f : sProp 𝕄) = idxLoc d ↦{q} f := rfl
theorem pts_lstV (f : Buf (Elt F) ((V d (cV L) (jV L)).loc cc0_scratch0)) :
    ((lstV).view.loc (V d (cV L) (jV L)) ↦{fullShare} f : sProp 𝕄) = (V d (cV L) (jV L)).loc cc0_scratch0 ↦{fullShare} f := rfl
theorem pts_bufIV (f : Buf (Elt F) ((V d (cV L) (jV L)).loc cc0_scoped0)) :
    ((bufIV).view.loc (V d (cV L) (jV L)) ↦{fullShare} f : sProp 𝕄) = (V d (cV L) (jV L)).loc cc0_scoped0 ↦{fullShare} f := rfl
theorem pts_bufRV (f : Buf (Elt F) ((V d (cV L) (jV L)).loc cc0_scoped2)) :
    ((bufRV).view.loc (V d (cV L) (jV L)) ↦{fullShare} f : sProp 𝕄) = (V d (cV L) (jV L)).loc cc0_scoped2 ↦{fullShare} f := rfl

/-! ## The halving loop -/

/-- Before trip `k`: the first `16·k` words of the list are the fetched ones, each halved. -/
def halveInv (fi : Buf (Elt F) ((V d (cV L) (jV L)).loc cc0_scoped0)) (k : ℕ) (_ : Unit) : sProp 𝕄 :=
  iprop(((bufIV).view.loc (V d (cV L) (jV L)) ↦{fullShare} fi)
    ∗ ∃ f : Buf (Elt F) ((V d (cV L) (jV L)).loc cc0_scratch0),
        ⌜∀ j : S1x128.Idx, (j 1).val < 16 * k → (f j : BitVec 32) = ((slotI bufIV).view.read (Elt F) fi j : BitVec 32) >>> 1⌝
        ∗ ((lstV).view.loc (V d (cV L) (jV L)) ↦{fullShare} f))

theorem halve_step (fi : Buf (Elt F) ((V d (cV L) (jV L)).loc cc0_scoped0)) (h1 : k0_cond1 L = 1#1) (k : Fin k0_t2_loop.trips) :
    halveInv d L fi k.val () ⊢ wp frame (wpE (defs₀ (F := F)) 𝒱₀ (V d (cV L) (jV L)) none) Set.univ
        (halve L lstV bufIV h1 k ()) fun a => halveInv d L fi (k.val + 1) a := by
  unfold halveInv halve
  iintro ⟨Hbi, %f, %hf, Hl⟩
  sl_exec
  sl_step
  isplitl [Hbi]; · iexact Hbi
  iexists _; isplitr; rotate_left
  · iexact Hl
  ipureintro
  have hx : ∀ y : S1x16.Idx, (halve_step.sl.x d L fi h1 k y : BitVec 32) = (slotI bufIV).view.read (Elt F) fi ((Rect.unit (s := S1x128) (k0_off11 k) S1x16.size (k0_off11_inb L k h1)).emb y) := by
    intro y
    unfold halve_step.sl.x
    rfl
  intro j hj
  have hj0 : (j 0).val = 0 := Nat.lt_one_iff.mp (j 0).isLt
  have hread : ∀ g : S1x128.Idx → BitVec 32, (View.read (Elt F) (lstV).view g j : BitVec 32) = g j := fun g => rfl
  refine (hread _).symm.trans ?_
  by_cases hlt : (j 1).val < 16 * k.val
  · refine (View.read_writes_cons_miss_of_axis (lstV).view f _ [] j (1 : Fin 2) (16 * k.val) 16 (congrFun (off11_eq k) 1) rfl rfl (Or.inl hlt)).trans ?_
    exact hf j hlt
  · have hy : (j 1).val - 16 * k.val < 16 := by omega
    have he : ∀ a, (j a).val = (Rect.unit (s := S1x128) (k0_off11 k) S1x16.size (k0_off11_inb L k h1)).off a
        + (Rect.unit (s := S1x128) (k0_off11 k) S1x16.size (k0_off11_inb L k h1)).stride a * ((ix2 (0 : Fin 1) ⟨(j 1).val - 16 * k.val, hy⟩ : S1x16.Idx) a).val := by
      intro a
      match a with
      | 0 => rw [show (Rect.unit (s := S1x128) (k0_off11 k) S1x16.size (k0_off11_inb L k h1)).off 0 = 0 from congrFun (off11_eq k) 0]
             show (j 0).val = 0 + 1 * 0; omega
      | 1 => rw [show (Rect.unit (s := S1x128) (k0_off11 k) S1x16.size (k0_off11_inb L k h1)).off 1 = 16 * k.val from congrFun (off11_eq k) 1]
             show (j 1).val = 16 * k.val + 1 * ((j 1).val - 16 * k.val); omega
    refine (View.read_writes_cons_hit_of_coords (lstV).view f _ _ [] (ix2 (0 : Fin 1) ⟨(j 1).val - 16 * k.val, hy⟩ : S1x16.Idx) j he).trans ?_
    rw [pay1_apply, hx]
    exact congrArg (fun v => ((slotI bufIV).view.read (Elt F) fi v : BitVec 32) >>> 1) (Rect.emb_eq_of_coords _ _ j he)

set_option maxHeartbeats 4000000 in
theorem tile_busy (hF : (K (F := F)).Facts) (hpre : InRange ix) (hb : Busy L) (h1 : k0_cond1 L = 1#1)
    (O : CellTallies nD τ sig (HIx 1)) (W : Waits sig (HIx 1)) (hO : ∀ g, O g none = 0) :
    iprop(levAts (K (F := F)).L (K (F := F)).lev ∗ (∃ ιwm, wmInv EW ιwm)
        ∗ (tblPts tb d (tq (cL L) (jL L)) ∗ idxPts ix d (tq (cL L) (jL L)) ∗ outWm tb ix f₀ d (cL L) (blk d (jL L)) ∅)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (tileProg L tblV idxV outV lstV bufIV cc0_scoped1 bufRV cc0_scoped3 cc0_scoped4 hb h1)
          fun _ => iprop((tblPts tb d (tq (cL L) (jL L)) ∗ idxPts ix d (tq (cL L) (jL L)) ∗ outWm tb ix f₀ d (cL L) (blk d (jL L)) (blk d (jL L)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileProg
  have hc3 := chk3 L hb ⟨0, by rw [busy_trips1 L hb]; omega⟩
  have hc2 := chk2 L hb ⟨0, by rw [busy_trips1 L hb]; omega⟩
  have hc1 := chk1 L hb ⟨0, by rw [busy_trips1 L hb]; omega⟩
  have hc8 := chk8 L hb
  have hc7 := chk7 L hb
  rw [(K (F := F)).scopedBufs_V hF d (cV L) (jV L), SparseCore.Cfg.scopedSems0_V (Val := Elt F) d (cV L) (jV L), ownSems0_V, ownBufs_V]
  iintro ⟨#Hlv, ⟨%ιwm, #Hwm⟩, ⟨Ht, Hi, Ho⟩, ⟨⟨%fl, Hl⟩, ⟨%fi, Hbi⟩, ⟨%fr, Hbr⟩, Hbufs⟩, ⟨HsemI, HsemO, HsemG, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tblV (F := F) d L _ _).symm) $$ Ht
  ihave Hi' := (Entails.of_eq (pts_idxV (F := F) d L _ _).symm) $$ Hi
  ihave Hl' := (Entails.of_eq (pts_lstV (F := F) d L _).symm) $$ Hl
  ihave Hbi' := (Entails.of_eq (pts_bufIV (F := F) d L _).symm) $$ Hbi
  ihave Hbr' := (Entails.of_eq (pts_bufRV (F := F) d L _).symm) $$ Hbr
  sl_exec
  sl_for (halveInv d L (View.write (Elt F) (slotI bufIV).view fi (tile_busy.sl.dma0 d L ix hb) Finset.univ)) $$ [Hbi' Hl']
  case region =>
    intro k acc
    exact halve_step d L _ h1 k
  · unfold halveInv
    isplitl [Hbi']; · iexact Hbi'
    iexists fl; isplitr
    · ipureintro; intro j hj; exact absurd hj (by omega)
    · iexact Hl'
  iintro %_ Hinv
  unfold halveInv
  icases Hinv with ⟨Hbi, %f, %hf, Hl⟩
  have hfe : ∀ j : S1x128.Idx, (f j : BitVec 32) = ((idxBlk L idxV hb).view.read (Elt F) (ix d) j : BitVec 32) >>> 1 := fun j =>
    (hf j (lt_of_lt_of_eq (j 1).isLt (by decide))).trans (congrArg (fun v : BitVec 32 => v >>> 1) (congrFun (View.read_write_univ (v := (slotI bufIV).view) _ _) j))
  have hin : ∀ x : S128.Idx, (View.read (Elt F) (listI lstV).view f x : BitVec 32).toNat < S50000x128.size gathers_S50000x128_S128x128.axis := fun x => by
    rw [list_read L hb d (ix d) f hfe]; exact half_lt _ (hpre d _)
  sl_exec
  ihave Hsp := (pointsTo_split_subset (q := fullShare) (S := Finset.univ) (Finset.subset_univ (slotR bufRV).view.set)).1 $$ Hbr'
  icases Hsp with ⟨Hsrc, Hrest⟩
  have hadm : (outBlk L outV hb).view.Admitted (Elt F) (fun j => some (gathered d (tb d) (ix d) j))
      ((slotR bufRV).view.read (Elt F) (View.write (Elt F) (slotR bufRV).view fr (tile_busy.sl.gather0 d L tb f hin) Finset.univ)) Finset.univ := by
    rw [View.admitted_some_iff]
    intro x _
    rw [View.read_write_univ, View.read_apply]
    exact gather_value L hb d (tb d) (ix d) f hfe (hpre d) _ hin x
  imod (Transfers.flight_alloc countersEmb (g := cellOut d (cV L) (jV L)) (N := (outBlk L outV hb).view.dmaCredit) (show 0 < (outV).view.ref.dmaCredit S128x128 .f32 by decide)
      iprop((willBeTo EW (outLoc d) (outBlk L outV hb).view.set (half (cL L)) (f₀ d) (fun j => some (gathered d (tb d) (ix d) j)) (∅ ∪ (outBlk L outV hb).view.set))
        ∗ ((slotR bufRV).view.loc (V d (cV L) (jV L)) ↦[(slotR bufRV).view.set]{fullShare} _))) $$ HsemO with ⟨%γ, %δ, %κ, #Hinv, Hγ, Hδ⟩
  ihave Ho' := (Entails.of_eq (congrArg (fun I => outWm tb ix f₀ d (cL L) I ∅) (outBlk_set L d hb).symm)) $$ Ho
  iapply (wp_enqueueDma_willBeTo (emb := EW) (ιwm := ιwm) 𝒱₀ (V d (cV L) (jV L)) none Set.univ (default : HIx 1) (outBlk L outV hb).view.dmaCredit rfl hadm) $$ [Hsrc Ho'] [Hγ]
  · isplitl [Hsrc]; · iexact Hsrc
    isplitr; · iexact Hwm
    iexact Ho'
  · iapply (Transfers.flight_creditUpdate countersEmb (δ := δ))
    isplitr; · iexact Hinv
    iexact Hγ
  iintro Hcred
  ihave Hfl := (Transfers.flight_intro countersEmb (V d (cV L) (jV L)) (κ := κ)) $$ [Hδ Hcred]
  · isplitr; · iexact Hinv
    isplitl [Hδ] <;> iassumption
  sl_exec
  sl_step
  ihave Ho := (Entails.of_eq (show (willBeTo EW (outLoc d) (outBlk L outV hb).view.set (half (cL L)) (f₀ d) (fun j => some (gathered d (tb d) (ix d) j)) (∅ ∪ (outBlk L outV hb).view.set) : sProp 𝕄)
      = outWm tb ix f₀ d (cL L) (blk d (jL L)) (blk d (jL L)) by rw [outBlk_set L d hb, Finset.empty_union])) $$ Hfl_dst
  isplitl [Ht' Hi' Ho]
  · isplitl [Ht']; · iexact Ht'
    isplitl [Hi']; · iexact Hi'
    iexact Ho
  isplitl [Hl Hbi Hrest Hbufs]
  · isplitl [Hl]; · iexists _; iexact Hl
    isplitl [Hbi]; · iexists _; iexact Hbi
    isplitl [Hrest]; · iexists _; iexact Hrest
    iexact Hbufs
  isplitl [HsemI HsemG Hfl Hsems]
  · isplitl [HsemI]; · iexact HsemI
    isplitl [Hfl]; · iexact Hfl
    isplitl [HsemG]; · iexact HsemG
    iexact Hsems
  iexists _
  isplitr; rotate_left
  · iexact HO
  ipureintro
  intro p hp
  rcases Finset.mem_insert.mp hp with rfl | hp; · exact Or.inr rfl
  rcases Finset.mem_insert.mp hp with rfl | hp; · exact Or.inr rfl
  rcases Finset.mem_insert.mp hp with rfl | hp; · exact Or.inr rfl
  exact Or.inl hp

end Tile

end Cert.Proof

end
-- ==== Proof.Gather.lean ====
/-
  The SparseCore call: what a tile is handed and hands back, over every tile, and how each core's operands split among its
  tiles and come together again.
-/
module

public import proofs.«01_k».proof.Proof.Tile

@[expose] public section

noncomputable section

namespace Cert.Proof

open Cert.KernelIdeal Cert.KernelIdeal.Gen
open Cert.Proof.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx (ix2 eq_ix2)

variable {F : FTy → Type} [FloatOps F]

local notation "𝕄" => MT nD τ sig (SparseCore.Cfg.HIx 1) (Elt F) ℕ (UU F) ℕ

variable (tb : (d : Dev nD) → Buf (Elt F) (tblLoc d)) (ix : (d : Dev nD) → Buf (Elt F) (idxLoc d)) (f₀ : (d : Dev nD) → Buf (Elt F) (outLoc d))

/-! ## One tile, busy or not -/

theorem tile_body (d : Dev nD) (L : grid0.Coords) (hF : (K (F := F)).Facts) (hpre : InRange ix)
    (O : CellTallies nD τ sig (HIx 1)) (W : Waits sig (HIx 1)) (hO : ∀ g, O g none = 0) :
    iprop(levAts (K (F := F)).L (K (F := F)).lev ∗ (∃ ιwm, wmInv EW ιwm)
        ∗ (tblPts tb d (tq (cL L) (jL L)) ∗ idxPts ix d (tq (cL L) (jL L)) ∗ outWm tb ix f₀ d (cL L) (blk d (jL L)) ∅)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tblV (Memref.isWhole_whole _) idxV (Memref.isWhole_whole _) outV (Memref.isWhole_whole _) lstV (Memref.isWhole_whole _)
            bufIV (Memref.isWhole_whole _) cc0_scoped1 bufRV (Memref.isWhole_whole _) cc0_scoped3 cc0_scoped4 cc0_scoped5)
          fun _ => iprop((tblPts tb d (tq (cL L) (jL L)) ∗ idxPts ix d (tq (cL L) (jL L)) ∗ outWm tb ix f₀ d (cL L) (blk d (jL L)) (blk d (jL L)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases hb : Busy L
  · rw [body_busy (hb := hb) (h1 := busy_cond1 L hb)]
    exact tile_busy d L tb ix f₀ hF hpre hb (busy_cond1 L hb) O W hO
  · rw [body_idle (hb := hb), show blk d (jL L) = ∅ from blk_idle L d hb]
    iintro ⟨-, -, H, Hb, Hs, HO⟩
    sl_step
    isplitl [H]; · iexact H
    isplitl [Hb]; · iexact Hb
    isplitl [Hs]; · iexact Hs
    iexists W; isplitr
    · ipureintro; exact fun p hp => Or.inl hp
    · iexact HO

/-! ## What the handshakes carry -/

/-- Each core takes half of the table's and the indices' permission and half of every element of the result in write mode, and
    brings them back with every element written; each of its tiles, a sixteenth of the first two and its block. -/
def P : (K (F := F)).Pay (nD := nD) (Val := Elt F) (Name := ℕ) (U := UU F) where
  st := fun q d c => match q with
    | 0 => iprop(tblPts tb d (half (Fin.cast nCore_zero c)) ∗ idxPts ix d (half (Fin.cast nCore_zero c)) ∗ outWm tb ix f₀ d (Fin.cast nCore_zero c) Finset.univ ∅)
  dn := fun q d c => match q with
    | 0 => iprop(tblPts tb d (half (Fin.cast nCore_zero c)) ∗ idxPts ix d (half (Fin.cast nCore_zero c)) ∗ outWm tb ix f₀ d (Fin.cast nCore_zero c) Finset.univ Finset.univ)
  go := fun q d c i => match q with
    | 0 => iprop(tblPts tb d (tq (Fin.cast nCore_zero c) (Fin.cast nSub_zero i)) ∗ idxPts ix d (tq (Fin.cast nCore_zero c) (Fin.cast nSub_zero i))
        ∗ outWm tb ix f₀ d (Fin.cast nCore_zero c) (blk d (Fin.cast nSub_zero i)) ∅)
  td := fun q d c i => match q with
    | 0 => iprop(tblPts tb d (tq (Fin.cast nCore_zero c) (Fin.cast nSub_zero i)) ∗ idxPts ix d (tq (Fin.cast nCore_zero c) (Fin.cast nSub_zero i))
        ∗ outWm tb ix f₀ d (Fin.cast nCore_zero c) (blk d (Fin.cast nSub_zero i)) (blk d (Fin.cast nSub_zero i)))
  x := fun _ _ => iprop(∃ ιwm, wmInv EW ιwm)

instance P_storable : (P tb ix f₀).IsStorable where
  st q d c := match q with
    | 0 => (inferInstance : BI.Storable (upEmb : UEmb _ 𝕄)
      iprop(tblPts tb d (half (Fin.cast nCore_zero c)) ∗ idxPts ix d (half (Fin.cast nCore_zero c)) ∗ outWm tb ix f₀ d (Fin.cast nCore_zero c) Finset.univ ∅))
  dn q d c := match q with
    | 0 => (inferInstance : BI.Storable (upEmb : UEmb _ 𝕄)
      iprop(tblPts tb d (half (Fin.cast nCore_zero c)) ∗ idxPts ix d (half (Fin.cast nCore_zero c)) ∗ outWm tb ix f₀ d (Fin.cast nCore_zero c) Finset.univ Finset.univ))
  go q d c i := match q with
    | 0 => (inferInstance : BI.Storable (upEmb : UEmb _ 𝕄)
      iprop(tblPts tb d (tq (Fin.cast nCore_zero c) (Fin.cast nSub_zero i)) ∗ idxPts ix d (tq (Fin.cast nCore_zero c) (Fin.cast nSub_zero i))
        ∗ outWm tb ix f₀ d (Fin.cast nCore_zero c) (blk d (Fin.cast nSub_zero i)) ∅))
  td q d c i := match q with
    | 0 => (inferInstance : BI.Storable (upEmb : UEmb _ 𝕄)
      iprop(tblPts tb d (tq (Fin.cast nCore_zero c) (Fin.cast nSub_zero i)) ∗ idxPts ix d (tq (Fin.cast nCore_zero c) (Fin.cast nSub_zero i))
        ∗ outWm tb ix f₀ d (Fin.cast nCore_zero c) (blk d (Fin.cast nSub_zero i)) (blk d (Fin.cast nSub_zero i))))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tblV (Memref.isWhole_whole _) idxV (Memref.isWhole_whole _) outV (Memref.isWhole_whole _) lstV (Memref.isWhole_whole _)
            bufIV (Memref.isWhole_whole _) cc0_scoped1 bufRV (Memref.isWhole_whole _) cc0_scoped3 cc0_scoped4 cc0_scoped5) ⟨⟩ c s := rfl

omit [FloatOps F] in
/-- Waits recorded as local are among those a call may record. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
set_option maxHeartbeats 2000000 in
theorem tileObl (hF : (K (F := F)).Facts) (hpre : InRange ix) : (K (F := F)).TileObl (D (F := F)) 𝒱 (P tb ix f₀) v₀ 0 := by
  intro d c i O W hO _ _
  simp only [show (P tb ix f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix f₀ d (coordsV ⟨_, hci.1⟩ ⟨_, hci.2⟩) hF hpre O W hO).trans (wp_mono frame _ _ fun _ => post_weaken)

/-! ## The split among the tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem blk_disjoint (d : Dev nD) : ∀ i ∈ (Finset.univ : Finset (Fin 16)), ∀ j ∈ (Finset.univ : Finset (Fin 16)), i ≠ j → Disjoint (blk d i) (blk d j) := by
  intro i _ j _ h
  rw [Finset.disjoint_left]
  intro x hi hj
  unfold blk at hi hj
  exact h (Fin.ext ((Finset.mem_filter.mp hi).2.symm.trans (Finset.mem_filter.mp hj).2))

theorem blk_cover (d : Dev nD) : (Finset.univ : Finset (Fin 16)).biUnion (blk d) = Finset.univ := by
  ext x
  simp only [Finset.mem_biUnion, Finset.mem_univ, true_and, iff_true]
  have hx : ((x : S1024x128.Idx) 0).val < 1024 := ((x : S1024x128.Idx) 0).isLt
  exact ⟨⟨((x : S1024x128.Idx) 0).val / 128, by omega⟩, Finset.mem_filter.mpr ⟨Finset.mem_univ _, rfl⟩⟩

/-- Elements held in write mode, along disjoint families. -/
theorem outWm_biUnion (d : Dev nD) (c : Fin 2) (W : Finset (Idx (outLoc d))) (S : Finset (Fin 16)) :
    outWm tb ix f₀ d c (S.biUnion (blk d)) W = bigSep S fun i => outWm tb ix f₀ d c (blk d i) W := by
  induction S using Finset.induction_on with
  | empty =>
    rw [Finset.biUnion_empty, bigSep_empty]
    exact BI.Region.held_empty (υ := (wmEmb (HIx 1) EW : UEmb (UW F) 𝕄))
  | insert t S ht ih =>
    rw [Finset.biUnion_insert, bigSep_insert ht]
    have hd : Disjoint (blk d t) (S.biUnion (blk d)) :=
      (Finset.disjoint_biUnion_right _ _ _).mpr fun t' ht' =>
        blk_disjoint d t (Finset.mem_univ _) t' (Finset.mem_univ _) (fun e => ht (e ▸ ht'))
    refine (BI.Entails.antisymm (BI.Region.held_union hd).1 (BI.Region.held_union hd).2).trans ?_
    rw [← ih]
    rfl

theorem outWm_blocks (d : Dev nD) (c : Fin 2) (W : Finset (Idx (outLoc d))) :
    outWm tb ix f₀ d c Finset.univ W = bigSep Finset.univ fun i : Fin 16 => outWm tb ix f₀ d c (blk d i) W := by
  rw [← outWm_biUnion, blk_cover]

theorem vecSplit : (K (F := F)).VecSplit' (P tb ix f₀) 0 := by
  intro d c
  show iprop(tblPts tb d (half (Fin.cast nCore_zero c)) ∗ idxPts ix d (half (Fin.cast nCore_zero c)) ∗ outWm tb ix f₀ d (Fin.cast nCore_zero c) Finset.univ ∅) ⊢ |={Set.univ}=> iprop(
      (bigSep Finset.univ fun i : Fin ((K (F := F)).nSub 0) =>
        iprop(tblPts tb d (tq (Fin.cast nCore_zero c) (Fin.cast nSub_zero i)) ∗ idxPts ix d (tq (Fin.cast nCore_zero c) (Fin.cast nSub_zero i))
          ∗ outWm tb ix f₀ d (Fin.cast nCore_zero c) (blk d (Fin.cast nSub_zero i)) ∅))
      ∗ ((bigSep Finset.univ fun i : Fin ((K (F := F)).nSub 0) =>
        iprop(tblPts tb d (tq (Fin.cast nCore_zero c) (Fin.cast nSub_zero i)) ∗ idxPts ix d (tq (Fin.cast nCore_zero c) (Fin.cast nSub_zero i))
          ∗ outWm tb ix f₀ d (Fin.cast nCore_zero c) (blk d (Fin.cast nSub_zero i)) (blk d (Fin.cast nSub_zero i))))
        -∗ iprop(tblPts tb d (half (Fin.cast nCore_zero c)) ∗ idxPts ix d (half (Fin.cast nCore_zero c)) ∗ outWm tb ix f₀ d (Fin.cast nCore_zero c) Finset.univ Finset.univ)))
  generalize (Fin.cast nCore_zero c : Fin 2) = c
  rw [bigSep_tasks (F := F) (fun i => iprop(tblPts tb d (tq c i) ∗ idxPts ix d (tq c i) ∗ outWm tb ix f₀ d c (blk d i) ∅)),
    bigSep_tasks (F := F) (fun i => iprop(tblPts tb d (tq c i) ∗ idxPts ix d (tq c i) ∗ outWm tb ix f₀ d c (blk d i) (blk d i))),
    bigSep_sep', bigSep_sep', bigSep_sep', bigSep_sep', outWm_blocks, outWm_blocks,
    show (fun i : Fin 16 => outWm tb ix f₀ d c (blk d i) (blk d i)) = fun i : Fin 16 => outWm tb ix f₀ d c (blk d i) Finset.univ from
      funext fun i => BI.Region.willBe_congr (fun _ _ => rfl) (fun _ _ => rfl) (fun j hj => ⟨fun _ => Finset.mem_univ _, fun _ => hj⟩)]
  unfold tblPts idxPts tq
  rw [ShareLeaves.pointsTo_leaves Finset.univ (tb d) 4 (half c), ShareLeaves.pointsTo_leaves Finset.univ (ix d) 4 (half c)]
  iintro H; imodintro
  isplitl [H]; · iexact H
  iintro H; iexact H

/-! ## The two cores' halves -/

/-- The result in write mode is the two cores' halves of it. -/
theorem outWm_halves (d : Dev nD) (W : Finset (Idx (outLoc d))) :
    (willBeTo EW (outLoc d) Finset.univ fullShare (f₀ d) (fun j => some (gathered d (tb d) (ix d) j)) W : sProp 𝕄)
      ⊣⊢ iprop(outWm tb ix f₀ d 0 Finset.univ W ∗ outWm tb ix f₀ d 1 Finset.univ W) := by
  refine BI.Region.held_share (PosShare.mem_left_op_right fullShare) fun i _ => ?_
  have h := Idealize.SL.RA.Region.WB.mem_mk_op_mk (f₀ d i) (some (gathered d (tb d) (ix d) i)) (decide (i ∈ W)) (decide (i ∈ W))
  rwa [Bool.or_self] at h

end Cert.Proof

end
-- ==== Proof.Launch.lean ====
/-
  The whole program's run: `@main` on the TensorCore around the two kernels' calls, the launch, and what memory holds at the
  end.
-/
module

public import proofs.«01_k».proof.Proof.RegionRun
public import proofs.«01_k».proof.Proof.Gather

@[expose] public section

noncomputable section

namespace Cert.Proof

open Cert.KernelIdeal Cert.KernelIdeal.Gen
open Cert.Proof.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.ValueIdx (ix2 eq_ix2)

variable {F : FTy → Type} [FloatOps F]

local notation "𝕄" => MT nD τ sig (SparseCore.Cfg.HIx 1) (Elt F) ℕ (UU F) ℕ

variable (m : (ℓ : Loc nD τ sig) → Buf (Elt F) ℓ) (ρ : Dev nD → PrngReg)

/-! ## A host operation of one operand -/

include m in
theorem wp_pair {op : HloOp τ sig (Elt F)}
    {k : ((b : op.writes) → b.1.ty.Contents (Elt F)) → Prog (TpuEff nD τ sig (Elt F) (SparseCore.Sig (ΛP (F := F)) 1) .tc) PUnit}
    (d : Dev nD) (x y : Ref sig .tc) (hne : (Proc.devRef .tc x : DevRef τ sig) ≠ Proc.devRef .tc y)
    (hb : op.bufs = {Proc.devRef .tc x, Proc.devRef .tc y}) (hf : op.fresh = ∅)
    (fx : Buf (Elt F) ((SparseCore.T d).loc x)) (fy gy : Buf (Elt F) ((SparseCore.T d).loc y))
    (hr : ∀ V : Valuation τ sig (Elt F), V (Proc.devRef .tc x) = fx →
      op.result V (Proc.devRef .tc x) = fx ∧ op.result V (Proc.devRef .tc y) = gy)
    (hk : ∀ w, k w = .ret ⟨⟩) (Q : PUnit → sProp 𝕄) :
    iprop(boundary (SparseCore.T d) ∗ ((SparseCore.T d).loc x ↦{fullShare} fx) ∗ ((SparseCore.T d).loc y ↦{fullShare} fy)
        ∗ ((boundary (SparseCore.T d) ∗ ((SparseCore.T d).loc x ↦{fullShare} fx) ∗ ((SparseCore.T d).loc y ↦{fullShare} gy)) -∗ Q ⟨⟩))
      ⊢ wp frame (wpE ((K (F := F)).defs (D (F := F))) 𝒱 (SparseCore.T d) none) Set.univ (hlo rfl op k) Q := by
  classical
  let V : Valuation τ sig (Elt F) :=
    Function.update (Function.update (fun b => m (d, b)) (Proc.devRef .tc x) fx) (Proc.devRef .tc y) fy
  have hx : V (Proc.devRef .tc x) = fx := by
    rw [show V (Proc.devRef .tc x) = _ from Function.update_of_ne hne _ _, Function.update_self]
  have hy : V (Proc.devRef .tc y) = fy := Function.update_self _ _ _
  have e : ∀ G : Valuation τ sig (Elt F), (bigSep op.bufs (fun b => ((d, b) : Loc nD τ sig) ↦{fullShare} G b) : sProp 𝕄)
      = iprop(((SparseCore.T d).loc x ↦{fullShare} G (Proc.devRef .tc x)) ∗ ((SparseCore.T d).loc y ↦{fullShare} G (Proc.devRef .tc y))) := by
    intro G
    rw [hb, SparseCore.bigSep_insert' (by simpa using hne), bigSep_singleton]
  have h := wp_hlo (Γ := .empty) (defs := (K (F := F)).defs (D (F := F))) 𝒱 (SparseCore.T d) none Set.univ (hp := rfl) (op := op) (k := k) (Q := Q) (q := fun _ => fullShare) (F := V)
    (fun _ _ => rfl) hf
  rw [e V, e (op.result V), hx, hy, (hr V hx).1, (hr V hx).2, hk] at h
  iintro ⟨Hb, Hx, Hy, Hk⟩
  iapply h $$ [Hb Hx Hy]
  · isplitl [Hb]; · iexact Hb
    isplitl [Hx]; · iexact Hx
    iexact Hy
  iintro H
  rw [wp_ret]
  imodintro
  iapply Hk
  iexact H

/-! ## The two kernels' calls -/

section Gather

variable (tb : (d : Dev nD) → Buf (Elt F) (tblLoc d)) (ix : (d : Dev nD) → Buf (Elt F) (idxLoc d)) (f₀ : (d : Dev nD) → Buf (Elt F) (outLoc d))

omit [FloatOps F] in
theorem bigSep_cores (Φ : Fin 2 → sProp 𝕄) :
    (bigSep Finset.univ fun c : Fin ((K (F := F)).nCore 0) => Φ (Fin.cast nCore_zero c)) = iprop(Φ 0 ∗ Φ 1) := by
  rw [show (bigSep Finset.univ fun c : Fin ((K (F := F)).nCore 0) => Φ (Fin.cast nCore_zero c)) = bigSep Finset.univ Φ from
    bigSep_congr fun _ _ => congrArg Φ (Fin.ext rfl)]
  rw [show (Finset.univ : Finset (Fin 2)) = {0, 1} from by decide, bigSep_insert (by decide), bigSep_singleton]
  rfl

theorem st_eq (d : Dev nD) : (bigSep Finset.univ fun c : Fin ((K (F := F)).nCore 0) => (P tb ix f₀).st 0 d c)
    = iprop((tblPts tb d (PosShare.left fullShare) ∗ idxPts ix d (PosShare.left fullShare) ∗ outWm tb ix f₀ d 0 Finset.univ ∅)
      ∗ (tblPts tb d (PosShare.right fullShare) ∗ idxPts ix d (PosShare.right fullShare) ∗ outWm tb ix f₀ d 1 Finset.univ ∅)) :=
  bigSep_cores (F := F) fun c => iprop(tblPts tb d (half c) ∗ idxPts ix d (half c) ∗ outWm tb ix f₀ d c Finset.univ ∅)
theorem dn_eq (d : Dev nD) : (bigSep Finset.univ fun c : Fin ((K (F := F)).nCore 0) => (P tb ix f₀).dn 0 d c)
    = iprop((tblPts tb d (PosShare.left fullShare) ∗ idxPts ix d (PosShare.left fullShare) ∗ outWm tb ix f₀ d 0 Finset.univ Finset.univ)
      ∗ (tblPts tb d (PosShare.right fullShare) ∗ idxPts ix d (PosShare.right fullShare) ∗ outWm tb ix f₀ d 1 Finset.univ Finset.univ)) :=
  bigSep_cores (F := F) fun c => iprop(tblPts tb d (half c) ∗ idxPts ix d (half c) ∗ outWm tb ix f₀ d c Finset.univ Finset.univ)

/-- The gather's call: its result is put in write mode, lent to the two cores by halves, and taken out of it filled. -/
theorem wp_gather (κ : GSem nD τ sig → ℕ) (d : Dev nD)
    (p : Prog (TpuEff nD τ sig (Elt F) (SparseCore.Sig (ΛP (F := F)) 1) .tc) PUnit) (Q : PUnit → sProp 𝕄) :
    iprop((K (F := F)).ctx EH (P tb ix f₀) κ ∗ (∃ ιwm, wmInv EW ιwm) ∗ (K (F := F)).tcSt EH d 0
        ∗ (tblLoc d ↦{fullShare} tb d) ∗ (idxLoc d ↦{fullShare} ix d) ∗ (outLoc d ↦{fullShare} f₀ d)
        ∗ (((K (F := F)).tcSt EH d 1 ∗ (tblLoc d ↦{fullShare} tb d) ∗ (idxLoc d ↦{fullShare} ix d) ∗ (outLoc d ↦{fullShare} gathered d (tb d) (ix d)))
          -∗ wp frame (wpE ((K (F := F)).defs (D (F := F))) 𝒱 (SparseCore.T d) none) Set.univ p Q))
      ⊢ wp frame (wpE ((K (F := F)).defs (D (F := F))) 𝒱 (SparseCore.T d) none) Set.univ (sc.run d 0)
          fun _ => wp frame (wpE ((K (F := F)).defs (D (F := F))) 𝒱 (SparseCore.T d) none) Set.univ p Q := by
  iintro ⟨#Hctx, ⟨%ιwm, #Hwm⟩, Hst, Ht, Hi, Ho, Hk⟩
  imod (pointsTo_castIn (emb := EW) (ιwm := ιwm) (E := Set.univ) (ℓ := outLoc d) (I := Finset.univ) (f := f₀ d) (fun j => some (gathered d (tb d) (ix d) j))) $$ [Ho] with Ho
  · isplitr; · iexact Hwm
    iexact Ho
  ihave Ho' := (outWm_halves tb ix f₀ d ∅).1 $$ Ho
  icases Ho' with ⟨Ho0, Ho1⟩
  ihave Ht' := (pointsTo_share (PosShare.mem_left_op_right fullShare)).1 $$ Ht
  icases Ht' with ⟨Ht0, Ht1⟩
  ihave Hi' := (pointsTo_share (PosShare.mem_left_op_right fullShare)).1 $$ Hi
  icases Hi' with ⟨Hi0, Hi1⟩
  iapply ((K (F := F)).wp_run (D (F := F)) 𝒱 (EH := EH) (P := P tb ix f₀) κ d 0) $$ [Hst Ht0 Ht1 Hi0 Hi1 Ho0 Ho1 Hk]
  isplitr; · iexact Hctx
  isplitl [Hst]; · iexact Hst
  isplitl [Ht0 Ht1 Hi0 Hi1 Ho0 Ho1]
  · rw [st_eq]
    isplitl [Ht0 Hi0 Ho0]
    · isplitl [Ht0]; · iexact Ht0
      isplitl [Hi0]; · iexact Hi0
      iexact Ho0
    · isplitl [Ht1]; · iexact Ht1
      isplitl [Hi1]; · iexact Hi1
      iexact Ho1
  iintro ⟨Hst, Hdn⟩
  ihave Hdn' := (Entails.of_eq (dn_eq tb ix f₀ d)) $$ Hdn
  icases Hdn' with ⟨⟨Ht0, Hi0, Ho0⟩, Ht1, Hi1, Ho1⟩
  ihave Ho := (outWm_halves tb ix f₀ d Finset.univ).2 $$ [Ho0 Ho1]
  · isplitl [Ho0] <;> iassumption
  imod (willBeTo_castOut_some (emb := EW) (ιwm := ιwm) (E := Set.univ) (ℓ := outLoc d) (I := Finset.univ) (f := f₀ d) (g := gathered d (tb d) (ix d)) (W := Finset.univ)) $$ [Ho] with Ho
  · isplitr; · iexact Hwm
    iexact Ho
  iapply Hk
  isplitl [Hst]; · iexact Hst
  isplitl [Ht0 Ht1]
  · iapply (pointsTo_share (PosShare.mem_left_op_right fullShare)).2
    isplitl [Ht0] <;> iassumption
  isplitl [Hi0 Hi1]
  · iapply (pointsTo_share (PosShare.mem_left_op_right fullShare)).2
    isplitl [Hi0] <;> iassumption
  iapply (Entails.of_eq (congrArg (fun f => (outLoc d ↦{fullShare} f : sProp 𝕄)) (Finset.piecewise_univ (gathered d (tb d) (ix d)) (f₀ d)))) $$ Ho

end Gather

section Call

variable (A0 : (d : Dev nD) → Buf (Elt F) ((d.tc : Thread nD τ).loc main_v2)) (A1 : (d : Dev nD) → Buf (Elt F) ((d.tc : Thread nD τ).loc main_v4))
  (A2 : (d : Dev nD) → Buf (Elt F) ((d.tc : Thread nD τ).loc main_v3)) (A3 : (d : Dev nD) → Buf (Elt F) ((d.tc : Thread nD τ).loc main_v5))

omit [FloatOps F] in
theorem lift_entry :
    (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩ : Prog (TpuEff nD τ sig (Elt F) (ΛP (F := F)) .tc) PUnit) := rfl

theorem wp_lift (d : Dev nD) (p : Prog (TpuEff nD τ sig (Elt F) (ΛP (F := F)) .tc) PUnit) (Q : PUnit → sProp 𝕄) :
    wp frame (wpE (D (F := F)) 𝒱 (SparseCore.T d) none) Set.univ p Q
      ⊢ wp frame (wpE ((K (F := F)).defs (D (F := F))) 𝒱 (SparseCore.T d) none) Set.univ (SparseCore.liftProg p) Q :=
  (K (F := F)).wp_liftProg (D (F := F)) 𝒱 (SparseCore.T d) Set.univ none p Q

theorem wp_entry [∀ e, Nonempty (Elt F e)] (d : Dev nD) (Q : PUnit → sProp 𝕄) :
    iprop(((boundary (d.tc : Thread nD τ) ∗ callPost A0 A1 A2 A3 d) -∗ Q ⟨⟩) ∗ boundary (d.tc : Thread nD τ) ∗ callPre A0 A1 A2 A3 d
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d) none) Set.univ
          (.op (.customCall (Pipeline.entry 0) ()) fun _ => .ret ⟨⟩ : Prog (TpuEff nD τ sig (Elt F) (ΛP (F := F)) .tc) PUnit) Q := by
  have h := Pipeline.RDat.RegionSeg.wp (pcfgs (F := F)) adm (rdats A0 A1 A2 A3) none cellOf_inj EP defs₀ 𝒱₀ (K (F := F)).L (K (F := F)).lev
    (seg A0 A1 A2 A3) d none (fun u hu => absurd hu (Option.not_mem_none u)) (fun _ => .ret ⟨⟩) Q
  refine BI.Entails.trans ?_ h
  rw [wp_ret]
  show _ ⊢ iprop(((boundary (d.tc : Thread nD τ) ∗ callPost A0 A1 A2 A3 d) -∗ |={Set.univ}=> Q ⟨⟩) ∗ boundary (d.tc : Thread nD τ) ∗ callPre A0 A1 A2 A3 d
        ∗ levAts (K (F := F)).L (K (F := F)).lev
        ∗ Pipeline.cellsGhost (Pipeline.pin (pcfgs (F := F)) adm) EP 0 d ∗ Pipeline.toksInit (Pipeline.pin (pcfgs (F := F)) adm) EP 0 d)
  iintro ⟨Hk, H⟩
  isplitl [Hk]
  · iintro H
    imodintro
    iapply Hk
    iexact H
  iexact H

/-- The TensorCore kernel's call. -/
theorem wp_call [∀ e, Nonempty (Elt F e)] (d : Dev nD) (Q : PUnit → sProp 𝕄) :
    iprop(((boundary (d.tc : Thread nD τ) ∗ callPost A0 A1 A2 A3 d) -∗ Q ⟨⟩) ∗ boundary (d.tc : Thread nD τ) ∗ callPre A0 A1 A2 A3 d
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Q := by
  rw [lift_entry]
  exact (wp_entry A0 A1 A2 A3 d Q).trans (wp_lift d _ Q)

end Call

/-! ## What the arrays hold on the way -/

/-- The table, two rows to a row. -/
def tb (d : Dev nD) : Buf (Elt F) (tblLoc d) := fun i => shapeCast S50000x128 (m ((SparseCore.T d).loc main_arg1)) shapeCasts_S100000x64_S50000x128 i
/-- The indices, as one row. -/
def ix (d : Dev nD) : Buf (Elt F) (idxLoc d) := fun i => shapeCast S1x1024 (m ((SparseCore.T d).loc main_arg0)) shapeCasts_S1024_S1x1024 i
/-- The gathered row pairs. -/
def rows (d : Dev nD) : Buf (Elt F) ((d.tc : Thread nD τ).loc main_v2) := gathered d (tb m d) (ix m d)
/-- The indices, as one column. -/
def col (d : Dev nD) : Buf (Elt F) ((d.tc : Thread nD τ).loc main_v4) := fun i => shapeCast S1024x1 (m ((SparseCore.T d).loc main_arg0)) shapeCasts_S1024_S1024x1 i
/-- The weights, transposed. -/
def wgt (d : Dev nD) : Buf (Elt F) ((d.tc : Thread nD τ).loc main_v3) :=
  (transpose S64x100000 [1, 0] (m ((SparseCore.T d).loc main_arg2)) transposes_S100000x64_S64x100000_1_0 : (⟨S64x100000, .f32⟩ : BufTy).Contents (Elt F))
def out₀ (d : Dev nD) : Buf (Elt F) ((d.tc : Thread nD τ).loc main_v5) := m ((SparseCore.T d).loc main_v5)
def res (d : Dev nD) (G : Buf (Elt F) ((d.tc : Thread nD τ).loc main_v5)) : Buf (Elt F) ((d.tc : Thread nD τ).loc main_v6) :=
  (transpose S1024x100000 [1, 0] G transposes_S100000x1024_S1024x100000_1_0 : (⟨S1024x100000, .f32⟩ : BufTy).Contents (Elt F))

/-- What the TensorCore kernel may leave in its result's array. -/
def Left (d : Dev nD) (G : Buf (Elt F) ((d.tc : Thread nD τ).loc main_v5)) : Prop :=
  (rdat d (rows m d) (col m d) (wgt m d) (out₀ m d)).ArrAt 3 50 G

/-! ## `@main` -/

def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ∃ G, ⌜Left m d G⌝ ∗ ((SparseCore.T d).loc main_v6 ↦{fullShare} res d G))

def GST (d : Dev nD) : sProp 𝕄 :=
  iprop((∃ ιwm, wmInv EW ιwm) ∗ Pipeline.cellsGhost (Pipeline.pin (pcfgs (F := F)) adm) EP 0 d ∗ Pipeline.toksInit (Pipeline.pin (pcfgs (F := F)) adm) EP 0 d)

omit [FloatOps F] in
theorem unscopedBufs_list (d : Dev nD) (W : (b : Ref sig .tc) → Buf (Elt F) ((SparseCore.T d).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped) = {main_arg0, main_arg1, main_arg2, main_v0, main_v1, main_v2, main_v3, main_v4, main_v5, main_v6} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem otc_one (d : Dev nD) : (K (F := F)).Otc (nD := nD) d 1 = 0 := by
  unfold SparseCore.Cfg.Otc
  exact Finset.sum_eq_zero fun q _ => if_neg (by omega)

/-- The thread's state once the gather is done: it owes nothing more. -/
def stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄)
    = iprop((∃ W, ⌜(K (F := F)).WBelow (d.tc : Thread nD τ) W 8⌝ ∗ owes (d.tc : Thread nD τ) 0 W) ∗ stRest d) := by
  unfold SparseCore.Cfg.tcSt
  rw [otc_one]
  rfl

theorem hmain [∀ e, Nonempty (Elt F e)] (κ : GSem nD τ sig → ℕ) (d : Dev nD) :
    iprop((K (F := F)).ctx EH (P (tb m) (ix m) (fun d => m (outLoc d))) κ ∗ (K (F := F)).tcSt EH d 0 ∗ (K (F := F)).tcRes m ρ d ∗ GST d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd GST
  rw [unscopedBufs_list]
  simp only [main, wp_bind, wp_pure]
  iintro ⟨#Hctx, Hst, ⟨Hb, ⟨Ha0, Ha1, Ha2, H0, H1, H2, H3, H4, H5, H6⟩, Hts, -⟩, #Hwm, Hcg, Htk⟩
  iapply (wp_pair m d main_arg1 main_v0 (by decide) rfl rfl (m ((SparseCore.T d).loc main_arg1)) (m ((SparseCore.T d).loc main_v0)) (tb m d)
    (fun V hV => ⟨(StableHlo.reshape_result_ne' _ _ _ _ V (by decide)).trans hV, (StableHlo.reshape_result' _ _ _ _ V).trans (by rw [hV]; rfl)⟩) (fun _ => rfl) _)
  isplitl [Hb]; · iexact Hb
  isplitl [Ha1]; · iexact Ha1
  isplitl [H0]; · iexact H0
  iintro ⟨Hb, Ha1, H0⟩
  iapply (wp_pair m d main_arg0 main_v1 (by decide) rfl rfl (m ((SparseCore.T d).loc main_arg0)) (m ((SparseCore.T d).loc main_v1)) (ix m d)
    (fun V hV => ⟨(StableHlo.reshape_result_ne' _ _ _ _ V (by decide)).trans hV, (StableHlo.reshape_result' _ _ _ _ V).trans (by rw [hV]; rfl)⟩) (fun _ => rfl) _)
  isplitl [Hb]; · iexact Hb
  isplitl [Ha0]; · iexact Ha0
  isplitl [H1]; · iexact H1
  iintro ⟨Hb, Ha0, H1⟩
  iapply (wp_gather (tb m) (ix m) (fun d => m (outLoc d)) κ d _ _)
  isplitr; · iexact Hctx
  isplitr; · iexact Hwm
  isplitl [Hst]; · iexact Hst
  isplitl [H0]; · iexact H0
  isplitl [H1]; · iexact H1
  isplitl [H2]; · iexact H2
  iintro ⟨Hst, H0, H1, H2⟩
  simp only [wp_bind]
  iapply (wp_pair m d main_arg2 main_v3 (by decide) rfl rfl (m ((SparseCore.T d).loc main_arg2)) (m ((SparseCore.T d).loc main_v3)) (wgt m d)
    (fun V hV => ⟨(StableHlo.unary_result_ne' _ _ _ V (by decide)).trans hV, (StableHlo.unary_result' _ _ _ V).trans (by rw [hV]; rfl)⟩) (fun _ => rfl) _)
  isplitl [Hb]; · iexact Hb
  isplitl [Ha2]; · iexact Ha2
  isplitl [H3]; · iexact H3
  iintro ⟨Hb, Ha2, H3⟩
  iapply (wp_pair m d main_arg0 main_v4 (by decide) rfl rfl (m ((SparseCore.T d).loc main_arg0)) (m ((SparseCore.T d).loc main_v4)) (col m d)
    (fun V hV => ⟨(StableHlo.reshape_result_ne' _ _ _ _ V (by decide)).trans hV, (StableHlo.reshape_result' _ _ _ _ V).trans (by rw [hV]; rfl)⟩) (fun _ => rfl) _)
  isplitl [Hb]; · iexact Hb
  isplitl [Ha0]; · iexact Ha0
  isplitl [H4]; · iexact H4
  iintro ⟨Hb, Ha0, H4⟩
  ihave Hst' := (Entails.of_eq (tcSt_one (F := F) d)) $$ Hst
  icases Hst' with ⟨HO, Hst⟩
  ihave Hlev := (SparseCore.Cfg.ctx_levAts (K := K (F := F)) κ) $$ Hctx
  iapply (wp_call (rows m) (col m) (wgt m) (out₀ m) d _)
  unfold callPre callPost
  isplitr [Hb H2 H4 H3 H5 HO Hlev Hcg Htk]
  swap
  · isplitl [Hb]; · iexact Hb
    isplitl [H2 H4 H3 H5 HO]
    · isplitl [H2]; · iexact H2
      isplitl [H4]; · iexact H4
      isplitl [H3]; · iexact H3
      isplitl [H5]; · iexact H5
      iexact HO
    isplitl [Hlev]; · iexact Hlev
    isplitl [Hcg] <;> iassumption
  iintro ⟨Hb, H2, H4, H3, ⟨%G, %hG, H5⟩, HO⟩
  iapply (wp_pair m d main_v5 main_v6 (by decide) rfl rfl G (m ((SparseCore.T d).loc main_v6)) (res d G)
    (fun V hV => ⟨(StableHlo.unary_result_ne' _ _ _ V (by decide)).trans hV, (StableHlo.unary_result' _ _ _ V).trans (by rw [hV]; rfl)⟩) (fun _ => rfl) _)
  isplitl [Hb]; · iexact Hb
  isplitl [H5]; · iexact H5
  isplitl [H6]; · iexact H6
  iintro ⟨Hb, H5, H6⟩
  imodintro
  isplitl [Hst HO]
  · iapply (Entails.of_eq (tcSt_one (F := F) d).symm)
    isplitl [HO] <;> iassumption
  isplitl [Ha0 Ha1 Ha2 H6]
  · unfold FIN
    isplitl [Ha0]; · iexact Ha0
    isplitl [Ha1]; · iexact Ha1
    isplitl [Ha2]; · iexact Ha2
    iexists G
    isplitr; · ipureintro; exact hG
    iexact H6
  isplitl [Hb] <;> iassumption

/-! ## The launch -/

/-- The ghost state at the launch: the handshakes', write mode's, the pipeline's. -/
def u₀ : UU F :=
  (initOf (K (F := F)).hsCells (K (F := F)).hsToks,
    (wm₀ nD τ sig (Elt F),
      (initOf (Pipeline.cells (Pipeline.pin (pcfgs (F := F)) adm) cellOf_inj) (Pipeline.launchToks (Pipeline.pin (pcfgs (F := F)) adm) cellOf_inj), 1)))

omit [FloatOps F] in
theorem bigSep_dev (Φ : Dev nD → sProp 𝕄) : bigSep Finset.univ Φ = Φ 0 := bigSep_univ_of_subsingleton (0 : Fin 1)
omit [FloatOps F] in
theorem bigSep_call (Φ : Fin 1 → sProp 𝕄) : bigSep Finset.univ Φ = Φ 0 := bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => GST d)
        ∗ bigSep Finset.univ fun thr : Thread nD τ => bigSep Finset.univ fun q : Fin 1 => (P (tb m) (ix m) (fun d => m (outLoc d))).x q thr) := by
  unfold u₀
  iintro Hu
  ihave H := (ownU_pair _ _) $$ Hu
  icases H with ⟨HH, Hu⟩
  ihave H := (own_pair_emb _ _ _) $$ Hu
  icases H with ⟨HW, Hu⟩
  ihave H := (own_pair_emb _ _ _) $$ Hu
  icases H with ⟨HP, -⟩
  ihave HW := (show (BI.own (((Emb.inl : Emb (UW F) (UW F × (UP × Counters))).trans embR) (wm₀ nD τ sig (Elt F))) : sProp 𝕄)
      ⊢ ownU ((EW (F := F)).toFun (wm₀ nD τ sig (Elt F))) from Entails.of_eq rfl) $$ HW
  imod (wmInv_alloc (emb := EW) (⟨m, fun _ => 0, fun _ => default⟩ : MemSt nD τ sig (Elt F)) (E := Set.univ)) $$ HW with ⟨%ιwm, -, #Hwm⟩
  ihave HP := (show (BI.own (((Emb.inl : Emb UP (UP × Counters)).trans ((Emb.inr : Emb (UP × Counters) (UW F × (UP × Counters))).trans embR))
      (initOf (Pipeline.cells (Pipeline.pin (pcfgs (F := F)) adm) cellOf_inj) (Pipeline.launchToks (Pipeline.pin (pcfgs (F := F)) adm) cellOf_inj))) : sProp 𝕄)
      ⊢ BI.own (EP (initOf (Pipeline.cells (Pipeline.pin (pcfgs (F := F)) adm) cellOf_inj) (Pipeline.launchToks (Pipeline.pin (pcfgs (F := F)) adm) cellOf_inj)))
      from Entails.of_eq rfl) $$ HP
  imod (Pipeline.fund_ghost (Pipeline.pin (pcfgs (F := F)) adm) EP cellOf_inj) $$ HP with ⟨Hcg, Htk⟩
  imodintro
  isplitl [HH]; · iexact HH
  isplitl [Hcg Htk]
  · ihave Hcg := (Entails.of_eq ((bigSep_dev _).trans (bigSep_call _))) $$ Hcg
    ihave Htk := (Entails.of_eq ((bigSep_dev _).trans (bigSep_call _))) $$ Htk
    iapply (Entails.of_eq (bigSep_dev (F := F) GST).symm)
    unfold GST
    isplitr; · iexists ιwm; iexact Hwm
    isplitl [Hcg] <;> iassumption
  iapply (bigSep_intro_persistent (S := Finset.univ) (R := (wmInv EW ιwm : sProp 𝕄)) (Φ := fun thr : Thread nD τ => bigSep Finset.univ fun q : Fin 1 => (P (tb m) (ix m) (fun d => m (outLoc d))).x q thr) (fun thr _ => by
    rw [bigSep_call]
    show (wmInv EW ιwm : sProp 𝕄) ⊢ iprop(∃ ιwm, wmInv EW ιwm)
    iintro H; iexists ιwm; iexact H))
  iexact Hwm

/-! ## The end -/

def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ ∃ G, Left m d G ∧ s'.mem.mem ((SparseCore.T d).loc main_v6) = res d G

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, H2, %G, %hG, H6⟩, HSI⟩
  ihave H := (persistent_entails_right (SI_pointsTo_agree (st := s') (ℓ := (SparseCore.T d).loc main_arg0) (I := Finset.univ) (q := fullShare))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare))) $$ [HSI H2]
  · isplitl [HSI] <;> iassumption
  icases H with ⟨%h2, HSI, -⟩
  ihave H := (persistent_entails_right (SI_pointsTo_agree (st := s') (ℓ := (SparseCore.T d).loc main_v6) (I := Finset.univ) (q := fullShare))) $$ [HSI H6]
  · isplitl [HSI] <;> iassumption
  icases H with ⟨%h6, HSI, -⟩
  ipureintro
  exact ⟨funext fun i => h0 i (Finset.mem_univ i), funext fun i => h1 i (Finset.mem_univ i), funext fun i => h2 i (Finset.mem_univ i),
    G, hG, funext fun i => h6 i (Finset.mem_univ i)⟩

def QC : PUnit × MemSt nD τ sig (Elt F) → Prop := fun r => (∀ d : Dev nD,
  r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ ∃ G, Left m d G ∧ r.2.mem ((SparseCore.T d).loc main_v6) = res d G) ∧ r.2.sem = fun _ => 0

/-- The run: from any memory whose indices are in range, every thread ends, the arguments are as they were, and the result
    is the transpose of something the TensorCore kernel may leave. -/
theorem run_main [∀ e, Nonempty (Elt F e)] (hpre : InRange (ix m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tb m) (ix m) (fun d => m (outLoc d))) (A := ∅) facts v₀
    (fun q hq => match q with | 0 => nomatch hq)
    (fun q _ => match q with | 0 => tileObl (tb m) (ix m) (fun d => m (outLoc d)) facts hpre)
    (fun q _ => match q with | 0 => SparseCore.Cfg.VecSplit.of_plain (vecSplit (tb m) (ix m) (fun d => m (outLoc d))))
    m ρ main GST (FIN m) (u₀ (F := F)) (sep_elim_left.trans (hu₀ m)) (hmain m ρ) (fq m) (hfin m) (QC m) (fun _ h hz => ⟨h, hz⟩)

end Cert.Proof

end
-- ==== Proof.Frames.lean ====
/-
  The frames: both readings of the kernel's program run, leave the arguments as they were and every counter at zero, and so
  does the reference.
-/
module

public import proofs.«01_k».proof.Proof.Launch
public import proofs.«01_k».proof.Defs
public import proofs.«01_k».proof.Proof.Gen.Kernel
public import proofs.«01_k».proof.Proof.Gen.Pre_in_range
public import proofs.«01_k».proof.Proof.Gen.ReferenceIdeal.Run
public import Idealize.ShloMosaic.Lib.ReduceAll

@[expose] public section

noncomputable section

namespace Cert.Proof

open Cert.KernelIdeal Cert.KernelIdeal.Gen
open Idealize.ShloMosaic Idealize.SL.Sem

/-- A 32-bit word at least 0 and below 100000 as a signed number is below 100000 as a natural number. -/
theorem word_lt {v : BitVec 32} (e : IntOp.andi (IntOp.cmpi .sge v 0#32) (IntOp.cmpi .slt v 100000#32) = 1#1) : v.toNat < 100000 := by
  have hand : ∀ p q : Bool, IntOp.andi (BitVec.ofBool p) (BitVec.ofBool q) = 1#1 → p = true ∧ q = true := by
    intro p q; cases p <;> cases q <;> decide
  obtain ⟨h0, h1⟩ := hand _ _ e
  rw [BitVec.sle_eq_decide] at h0
  rw [BitVec.slt_eq_decide] at h1
  have e0 : (0#32 : BitVec 32).toInt = 0 := by decide
  have e1 : (100000#32 : BitVec 32).toInt = 100000 := by decide
  have h0' := of_decide_eq_true h0
  have h1' := of_decide_eq_true h1
  rw [e0, BitVec.toInt_eq_toNat_cond] at h0'
  rw [e1, BitVec.toInt_eq_toNat_cond] at h1'
  split at h1' <;> omega

instance : Subsingleton Cert.Pre_in_range.S_.Idx := ⟨fun _ _ => funext fun a => a.elim0⟩

/-- The precondition, at one index. -/
theorem pre_lt {F : FTy → Type} [FloatOps F] {x : IVec S1024 32} {y z : FVec F S100000x64 .f32}
    (h : Cert.Pre_in_range.fn x y z = fun _ => 1#1) (j : S1024.Idx) : (x j).toNat < 100000 := by
  have e := congrFun h (Shape.Idx.first Cert.Pre_in_range.Gen.facts.h_S_)
  unfold Cert.Pre_in_range.fn at e
  exact word_lt (Host.reduce_andi_all _ _ _ _ _ e j)

theorem inRange_of {F : FTy → Type} [FloatOps F] (m : (ℓ : Loc nD τ sig) → Buf (Elt F) ℓ)
    (h : ∀ (d : Dev nD) (j : S1024.Idx), (m ((d.tc : Thread nD τ).loc main_arg0) j : BitVec 32).toNat < 100000) : InRange (ix m) :=
  fun d _ => h d _

/-- The two readings of the kernel's program have one text, so one body table at any float values. -/
theorem bodies_eq {F : FTy → Type} [FloatOps F] : Cert.Kernel.defs₀ (F := F) = Cert.KernelIdeal.defs₀ (F := F) := by
  funext q ℓ a
  match q, ℓ, a with
  | .tc, 0, _ => rfl
  | .tc, 1, _ => rfl
  | .scScalar _, 0, _ => rfl
  | .scScalar _, 1, _ => rfl
  | .scVector _ _, 0, _ => rfl
  | .scVector _ _, 1, _ => rfl

theorem table_eq {F : FTy → Type} [FloatOps F] : Cert.Kernel.defs (F := F) = Cert.KernelIdeal.defs (F := F) :=
  congrArg (fun D => Cert.KernelIdeal.sc.defs (Pipeline.defs Cert.KernelIdeal.pcfgs D)) bodies_eq

theorem frame_kernel : Cert.quiescent_Kernel := fun m ρ hpre => by
  have run : θ_run (Cert.KernelIdeal.defs (F := Bits)) (Cert.KernelIdeal.threads (F := Bits)) ⟨m, fun _ => 0, ρ⟩ (QC m) :=
    run_main (F := Bits) m ρ (inRange_of m fun d => pre_lt (hpre d))
  rw [← table_eq] at run
  exact (θ_run Cert.Kernel.defs _ _).mono (fun _ h => ⟨fun c => ⟨(h.1 c).1, (h.1 c).2.1, (h.1 c).2.2.1⟩, h.2⟩) run

theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ (inRange_of m fun d => pre_lt (hpre d)))

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
/-
  Log-softmax over the extended reals: taking the row's maximum off first does not change the value.

  The reference subtracts the maximum of a row before it exponentiates; the kernel does not. Over the extended reals the
  two agree for every row, one that holds an infinity included: with a maximum of `⊤` both are `⊥`, with `⊥` both are `⊥`,
  and with a real maximum the sum of exponentials is real and positive, so its logarithm splits.
-/
module

public import Idealize.ShloMosaic.Lib.Pointwise

@[expose] public section

noncomputable section

namespace Cert.Proof

open Idealize.ShloMosaic

theorem exp_bot : Ideal.exp ⊥ = 0 := rfl
theorem exp_top : Ideal.exp ⊤ = ⊤ := rfl
theorem exp_coe (r : ℝ) : Ideal.exp (r : EReal) = ((Real.exp r : ℝ) : EReal) := rfl
theorem log_top : Ideal.log ⊤ = ⊤ := rfl

/-- The real number that the exponential of an extended real below `⊤` is. -/
def expR (x : EReal) : ℝ := if x = ⊥ then 0 else Real.exp x.toReal

theorem expR_nonneg (x : EReal) : 0 ≤ expR x := by
  unfold expR
  split
  · exact le_refl _
  · exact (Real.exp_pos _).le

theorem exp_eq_expR (x : EReal) (h : x ≠ ⊤) : Ideal.exp x = ((expR x : ℝ) : EReal) := by
  induction x with
  | bot => simp [exp_bot, expR]
  | top => exact absurd rfl h
  | coe r => simp [exp_coe, expR]

theorem exp_sub_eq (x : EReal) (r : ℝ) (h : x ≠ ⊤) :
    Ideal.exp (x - (r : EReal)) = ((expR x * Real.exp (-r) : ℝ) : EReal) := by
  induction x with
  | bot => simp [exp_bot, expR, EReal.bot_sub]
  | top => exact absurd rfl h
  | coe a =>
    rw [← EReal.coe_sub, exp_coe]
    simp [expR, sub_eq_add_neg, Real.exp_add]

theorem coe_sum' {n : ℕ} (f : Fin n → ℝ) : ∑ u, ((f u : ℝ) : EReal) = ((∑ u, f u : ℝ) : EReal) := by
  have h : ∀ s : Finset (Fin n), ∑ u ∈ s, ((f u : ℝ) : EReal) = ((∑ u ∈ s, f u : ℝ) : EReal) := fun s => by
    induction s using Finset.induction_on with
    | empty => simp
    | insert a s ha ih => rw [Finset.sum_insert ha, Finset.sum_insert ha, ih, EReal.coe_add]
  exact h _

theorem exp_nonneg' (x : EReal) : 0 ≤ Ideal.exp x := by
  induction x with
  | bot => exact le_refl _
  | top => exact le_top
  | coe r => exact EReal.coe_nonneg.2 (Real.exp_pos r).le

/-- Subtracting the maximum of a row first leaves its log-softmax as it is. -/
theorem log_softmax_shift {n : ℕ} (x : Fin n → EReal) (M : EReal) (hle : ∀ u, x u ≤ M) (hat : ∃ u, x u = M) (v : Fin n) :
    (x v - M) - Ideal.log (0 + ∑ u, Ideal.exp (x u - M)) = x v - Ideal.log (∑ u, Ideal.exp (x u)) := by
  obtain ⟨u₀, h₀⟩ := hat
  induction M with
  | bot =>
    have hv : x v = ⊥ := le_bot_iff.1 (hle v)
    rw [hv]
    simp [EReal.bot_sub]
  | top =>
    have hs : ∑ u, Ideal.exp (x u) = ⊤ := top_le_iff.1 (by
      have h := Finset.single_le_sum (f := fun u => Ideal.exp (x u)) (fun u _ => exp_nonneg' (x u)) (Finset.mem_univ u₀)
      rw [h₀] at h
      exact h)
    rw [hs, log_top]
    simp [EReal.sub_top, EReal.bot_sub]
  | coe r =>
    have hne : ∀ u, x u ≠ ⊤ := fun u h => by
      have := hle u
      rw [h] at this
      exact absurd (top_le_iff.1 this) (EReal.coe_ne_top r)
    have hpos : 0 < ∑ u, expR (x u) :=
      lt_of_lt_of_le (by rw [h₀]; simp [expR, Real.exp_pos])
        (Finset.single_le_sum (f := fun u => expR (x u)) (fun u _ => expR_nonneg _) (Finset.mem_univ u₀))
    have h1 : ∑ u, Ideal.exp (x u) = ((∑ u, expR (x u) : ℝ) : EReal) := by
      rw [← coe_sum']
      exact Finset.sum_congr rfl fun u _ => exp_eq_expR _ (hne u)
    have h2 : ∑ u, Ideal.exp (x u - (r : EReal)) = (((∑ u, expR (x u)) * Real.exp (-r) : ℝ) : EReal) := by
      rw [Finset.sum_mul, ← coe_sum']
      exact Finset.sum_congr rfl fun u _ => exp_sub_eq _ r (hne u)
    have hlog : ∀ s : ℝ, 0 < s → Ideal.log ((s : ℝ) : EReal) = ((Real.log s : ℝ) : EReal) := fun s hs => by
      show (if s ≤ 0 then (⊥ : EReal) else _) = _
      rw [if_neg (not_le.2 hs)]
    rw [zero_add, h1, h2, hlog _ hpos, hlog _ (mul_pos hpos (Real.exp_pos _)),
      Real.log_mul hpos.ne' (Real.exp_pos _).ne', Real.log_exp]
    have hv := hne v
    generalize x v = y at hv
    clear hle hne h₀
    induction y with
    | bot => simp [EReal.bot_sub]
    | top => exact absurd rfl hv
    | coe a =>
      simp only [← EReal.coe_sub]
      congr 1
      ring

/-- A row's maximum, taken as a fold from `⊥`, bounds the row and is one of its entries. -/
theorem fold_max_bot {n : ℕ} (x : Fin (n + 1) → EReal) :
    (∀ u, x u ≤ Finset.univ.fold max ⊥ x) ∧ ∃ u, x u = Finset.univ.fold max ⊥ x := by
  refine ⟨fun u => (Finset.le_fold_max _).2 (.inr ⟨u, Finset.mem_univ u, le_refl _⟩), ?_⟩
  rcases (Finset.le_fold_max _).1 (le_refl (Finset.univ.fold max ⊥ x)) with h | ⟨u, _, h⟩
  · refine ⟨0, ?_⟩
    rw [le_bot_iff.1 h]
    exact le_bot_iff.1 (((Finset.fold_max_le _).1 (h : _ ≤ (⊥ : EReal))).2 0 (Finset.mem_univ _))
  · exact ⟨u, le_antisymm ((Finset.le_fold_max _).2 (.inr ⟨u, Finset.mem_univ u, le_refl _⟩)) h⟩

theorem negInf : Ideal.ofBits .f32 0xFF800000#32 = (⊥ : EReal) := by
  show Ideal.ieee 8 23 0xFF800000#32 = ⊥
  unfold Ideal.ieee
  rw [if_pos (by decide), if_pos (by decide), if_pos (by decide)]

/-- The maximum over the columns of a matrix, at a row: for any number of rows and columns. -/
theorem rowMax_apply {B N : ℕ} {u : Shape} (L : FVec Ideal ⟨2, ![B, N]⟩ .f32) (init : FVec Ideal u .f32)
    (h : (⟨2, ![B, N]⟩ : Shape).ReducesTo [1] ⟨1, ![B]⟩) (hu : 0 < u.numel) (hi : ∀ i, init i = (⊥ : EReal)) (b : Fin B) :
    Host.reduce FloatOps.maximumf L init h hu (ix1 b) = Finset.univ.fold max (⊥ : EReal) fun k : Fin N => L (ix2 b k) := by
  rw [Host.reduce_eq_fold, Shape.ReducesTo.fold_fiber_r2_a1, hi]
  rfl

end Cert.Proof
-- ==== Proof.Payloads.lean ====
/-
  The TensorCore kernel's arithmetic, read one entry at a time over the extended reals.
-/
module

public import proofs.«01_k».proof.Proof.Gen.KernelIdeal.Skeleton
public import proofs.«01_k».proof.Proof.Softmax

@[expose] public section

noncomputable section

namespace Cert.Proof

open Cert.KernelIdeal Cert.KernelIdeal.Gen
open Idealize.ShloMosaic

variable (A0 : Vec Ideal S1024x128 .f32) (A1 : Vec Ideal S1024x1 .i32) (W : Vec Ideal S64x4096 .f32)

/-- The half of a gathered row pair that the low bit of the index picks. -/
def halfRow (b : Fin 1024) (k : Fin 64) : EReal :=
  if A1 (ix2 b (0 : Fin 1)) &&& 1#32 = 0#32 then A0 (ix2 b (⟨k.val, by omega⟩ : Fin 128))
  else A0 (ix2 b (⟨64 + k.val, by omega⟩ : Fin 128))

theorem select_if {α : Type} (p : Prop) [Decidable p] (c : BitVec 1) (h : c = if p then 1#1 else 0#1) (x y : α) :
    Scalar.select c x y = if p then x else y := by
  rw [h]
  unfold Scalar.select
  by_cases hp : p
  · rw [if_pos hp, if_pos hp]; exact if_pos rfl
  · rw [if_neg hp, if_neg hp]; exact if_neg (by decide)

theorem fused2_apply (r : Fin 4096) (b : Fin 1024) :
    k1_pay2 A0 A1 W (ix2 r b) = ∑ k : Fin 64, W (ix2 k r) * halfRow A0 A1 b k := by
  pointwise [k1_pay2]
  refine Finset.sum_congr rfl fun k _ => ?_
  unfold halfRow
  congr 1
  refine select_if _ _ ?_ _ _
  show IntOp.cmpi .eq (A1 (ix2 b 0) &&& 1#32) 0#32 = _
  generalize A1 (ix2 b 0) &&& 1#32 = w
  by_cases h : w = 0#32
  · rw [if_pos h, h]; decide
  · rw [if_neg h]
    show BitVec.ofBool ((w : BitVec 32) == 0#32) = 0#1
    rw [show ((w : BitVec 32) == 0#32) = false from beq_eq_false_iff_ne.2 h]
    rfl

theorem fused3_apply (b : Fin 1024) : (k1_pay3 (F := Ideal) : FVec Ideal S1x1024 .f32) (ix2 (0 : Fin 1) b) = (0 : EReal) := by
  pointwise [k1_pay3]

theorem fused1_apply (v : Vec Ideal S4096x1024 .f32) (z : Vec Ideal S1x1024 .f32) (r : Fin 4096) (b : Fin 1024) :
    k1_pay1 v z (ix2 r b) = v (ix2 r b) - z (ix2 (0 : Fin 1) b) := by
  pointwise [k1_pay1]

theorem fused4_apply (s : Vec Ideal S1x1024 .f32) (b : Fin 1024) :
    k1_pay4 A0 A1 W s (ix2 (0 : Fin 1) b) = s (ix2 (0 : Fin 1) b) + ∑ r : Fin 4096, Ideal.exp (k1_pay2 A0 A1 W (ix2 r b)) := by
  pointwise [k1_pay4]

/-- Row `r` of the last block is inside the vocabulary: as the kernel's words say it. -/
theorem mask_word (r : Fin 4096) :
    IntOp.cmpi .slt (IntOp.addi (Scalar.muli (BitVec.ofNat 32 24) 4096#32) (BitVec.ofNat 32 r.val)) 100000#32
      = if 24 * 4096 + r.val < 100000 then 1#1 else 0#1 := by
  show BitVec.ofBool (BitVec.slt (BitVec.ofNat 32 24 * 4096#32 + BitVec.ofNat 32 r.val) 100000#32) = _
  have e : BitVec.ofNat 32 24 * 4096#32 + BitVec.ofNat 32 r.val = BitVec.ofNat 32 (24 * 4096 + r.val) := by
    rw [BitVec.ofNat_add]; rfl
  have hr := r.isLt
  have hi : (BitVec.ofNat 32 (24 * 4096 + r.val)).toInt = ((24 * 4096 + r.val : ℕ) : ℤ) := by
    rw [BitVec.toInt_eq_toNat_of_lt] <;> rw [BitVec.toNat_ofNat, Nat.mod_eq_of_lt] <;> omega
  have hc : (100000#32).toInt = 100000 := by decide
  rw [e]
  unfold BitVec.slt
  rw [hi, hc]
  by_cases h : 24 * 4096 + r.val < 100000
  · rw [if_pos h, decide_eq_true (by omega)]; rfl
  · rw [if_neg h, decide_eq_false (by omega)]; rfl

theorem fused5_apply (i : grid1.Coords) (hi : (i 1).val = 24) (s : Vec Ideal S1x1024 .f32) (b : Fin 1024) :
    k1_pay5 i A0 A1 W s (ix2 (0 : Fin 1) b) = Ideal.log (s (ix2 (0 : Fin 1) b)
      + ∑ r : Fin 4096, if 24 * 4096 + r.val < 100000 then Ideal.exp (k1_pay2 A0 A1 W (ix2 r b)) else 0) := by
  pointwise [k1_pay5]
  congr 2
  refine Finset.sum_congr rfl fun r _ => ?_
  rw [hi, select_if _ _ (mask_word r), negInf]
  simp only [Nat.reduceMul]
  split
  · rfl
  · exact exp_bot

end Cert.Proof
-- ==== Proof.Blocks.lean ====
/-
  The TensorCore kernel's result over the extended reals: each block of the result is its logits less the logarithm of the
  sum of all the exponentials of the row, whatever the kernel finds past the array's edge in the last block.
-/
module

public import proofs.«01_k».proof.Proof.RegionData
public import proofs.«01_k».proof.Proof.Payloads
public import Idealize.ShloMosaic.Lib.Pipeline.ValueKit
public import Idealize.ShloMosaic.Lib.Pipeline.ArrRel

@[expose] public section

noncomputable section

namespace Cert.Proof

open Cert.KernelIdeal Cert.KernelIdeal.Gen
open Idealize.ShloMosaic
open Idealize.SL.Sem

/-! ## Where the blocks lie -/

theorem index2_0 : ∀ t : Fin grid1.N, win1_2.index t 0 = 0 := by decide +kernel
theorem index2_1 : ∀ t : Fin grid1.N, win1_2.index t 1 = t.val % 25 := by decide +kernel
theorem xsize2_0 : ∀ t : Fin grid1.N, win1_2.xsize (grid1.coords t) 0 = 64 := by decide +kernel
theorem xsize2_1 : ∀ t : Fin grid1.N, win1_2.xsize (grid1.coords t) 1 = min 4096 (100000 - t.val % 25 * 4096) := by decide +kernel
theorem index3_0 : ∀ t : Fin grid1.N, 25 ≤ t.val → win1_3.index t 0 = t.val - 25 := by decide +kernel
theorem index3_1 : ∀ t : Fin grid1.N, win1_3.index t 1 = 0 := by decide +kernel
theorem xsize3_0 : ∀ t : Fin grid1.N, 25 ≤ t.val → win1_3.xsize (grid1.coords t) 0 = min 4096 (100000 - (t.val - 25) * 4096) := by
  decide +kernel
theorem flush3 : ∀ t : Fin grid1.N, win1_3.flush t = true → 25 ≤ t.val := by decide +kernel
theorem covers3 : win1_3.Covers := by decide +kernel

variable (c : Dev nD) (A0 : Vec Ideal S1024x128 .f32) (A1 : Vec Ideal S1024x1 .i32) (A2 : Vec Ideal S64x100000 .f32)
  (A3 : Vec Ideal S100000x1024 .f32)

/-- Inside the array the weights' block is the array's columns. -/
theorem wBlk_apply (t : Fin cfg1.N) (e : Vec Ideal S64x4096 .f32) (k : Fin 64) (r : Fin 4096) (u : Fin 100000)
    (hu : u.val = t.val % 25 * 4096 + r.val) : wBlk (F := Ideal) c A2 t e (ix2 k r) = A2 (ix2 k u) := by
  have hm : (cfg1.win 2).moved (cfg1.grid.coords t) (ix2 k r) = true := ((cfg1.win 2).moved_iff _ _).mpr fun a => by
    match a with
    | 0 =>
      show k.val < win1_2.xsize (grid1.coords t) 0
      rw [xsize2_0 t]; exact k.isLt
    | 1 =>
      show r.val < win1_2.xsize (grid1.coords t) 1
      rw [xsize2_1 t]
      have := r.isLt
      have := u.isLt
      omega
  unfold wBlk Pipeline.Window.fill
  rw [dif_pos hm]
  refine congrArg (A2 : S64x100000.Idx → EReal) (funext fun a => Fin.ext ?_)
  match a with
  | 0 =>
    refine (win1_2.rect_emb_val t _ 0).trans ?_
    rw [index2_0 t]
    show 0 * 64 + k.val = k.val
    omega
  | 1 =>
    refine (win1_2.rect_emb_val t _ 1).trans ?_
    rw [index2_1 t]
    show t.val % 25 * 4096 + r.val = u.val
    omega

/-! ## The sum of the exponentials -/

/-- The logit of row `b` at word `u`. -/
def logit (u : Fin 100000) (b : Fin 1024) : EReal := ∑ k : Fin 64, A2 (ix2 k u) * halfRow A0 A1 b k

/-- The exponential of the logit at place `u`, zero past the vocabulary. -/
def expAt (b : Fin 1024) (u : ℕ) : EReal := if h : u < 100000 then Ideal.exp (logit A0 A1 A2 ⟨u, h⟩ b) else 0

theorem fused2_logit (t : Fin cfg1.N) (e : Vec Ideal S64x4096 .f32) (r : Fin 4096) (b : Fin 1024) (u : Fin 100000)
    (hu : u.val = t.val % 25 * 4096 + r.val) :
    k1_pay2 A0 A1 (wBlk (F := Ideal) c A2 t e) (ix2 r b) = logit A0 A1 A2 u b := by
  rw [fused2_apply]
  unfold logit
  exact Finset.sum_congr rfl fun k _ => by rw [wBlk_apply c A2 t e k r u hu]

theorem sumP_apply (b : Fin 1024) : ∀ (n : ℕ) (s : Vec Ideal S1x1024 .f32), n ≤ 24 → SumP (F := Ideal) c A0 A1 A2 n s →
    s (ix2 (0 : Fin 1) b) = ∑ a ∈ Finset.range n, ∑ r ∈ Finset.range 4096, expAt A0 A1 A2 b (a * 4096 + r)
  | 0, s, _, h => by
    rw [show s = k1_pay3 (F := Ideal) from h, fused3_apply, Finset.sum_range_zero]
  | n + 1, s, hn, h => by
    obtain ⟨t, s', e, ht, hs', rfl⟩ := h
    rw [fused4_apply, sumP_apply b n s' (by omega) hs', Finset.sum_range_succ]
    refine congrArg (_ + ·) ?_
    rw [Finset.sum_range]
    refine Finset.sum_congr rfl fun r _ => ?_
    have hr := r.isLt
    have hu : n * 4096 + r.val < 100000 := by omega
    unfold expAt
    rw [dif_pos hu, fused2_logit c A0 A1 A2 t e r b ⟨n * 4096 + r.val, hu⟩ (by show n * 4096 + r.val = _; omega)]

/-- The logarithm of the sum of the exponentials of row `b`. -/
def logSum (b : Fin 1024) : EReal := Ideal.log (∑ u : Fin 100000, Ideal.exp (logit A0 A1 A2 u b))

theorem expAt_sum (b : Fin 1024) :
    ∑ a ∈ Finset.range 25, ∑ r ∈ Finset.range 4096, expAt A0 A1 A2 b (a * 4096 + r)
      = ∑ u : Fin 100000, Ideal.exp (logit A0 A1 A2 u b) := by
  rw [← Finset.sum_range_mul_split 25 4096 (expAt A0 A1 A2 b)]
  have h : ∑ u ∈ Finset.range 100000, expAt A0 A1 A2 b u = ∑ u ∈ Finset.range (25 * 4096), expAt A0 A1 A2 b u :=
    Finset.sum_subset (Finset.range_subset_range.2 (by omega)) fun u _ hu => by
      unfold expAt
      rw [dif_neg fun h => hu (Finset.mem_range.2 h)]
  rw [← h, Finset.sum_range]
  refine Finset.sum_congr rfl fun u _ => ?_
  unfold expAt
  rw [dif_pos u.isLt]

theorem logP_apply (b : Fin 1024) (z : Vec Ideal S1x1024 .f32) (h : LogP (F := Ideal) c A0 A1 A2 z) :
    z (ix2 (0 : Fin 1) b) = logSum A0 A1 A2 b := by
  obtain ⟨t, s, e, ht, hs, rfl⟩ := h
  rw [fused5_apply A0 A1 _ (grid1.coords t) (by rw [coords1 t, ht]), sumP_apply c A0 A1 A2 b 24 s (le_refl _) hs]
  unfold logSum
  rw [← expAt_sum, Finset.sum_range_succ _ 24]
  refine congrArg (fun x => Ideal.log (_ + x)) ?_
  rw [Finset.sum_range]
  refine Finset.sum_congr rfl fun r _ => ?_
  unfold expAt
  by_cases hu : 24 * 4096 + r.val < 100000
  · rw [if_pos hu, dif_pos hu, fused2_logit c A0 A1 A2 t e r b ⟨24 * 4096 + r.val, hu⟩ (by show 24 * 4096 + r.val = _; rw [ht])]
  · rw [if_neg hu, dif_neg hu]

/-! ## The result's array -/

/-- The array of the result: word `u` of row `b`. -/
def outVal : Vec Ideal S100000x1024 .f32 := fun j => logit A0 A1 A2 (j 0) (j 1) - logSum A0 A1 A2 (j 1)

theorem outP_apply (t : Fin cfg1.N) (ht : 25 ≤ t.val) (X : Vec Ideal S4096x1024 .f32) (hX : OutP (F := Ideal) c A0 A1 A2 t X)
    (r : Fin 4096) (b : Fin 1024) (u : Fin 100000) (hu : u.val = (t.val - 25) * 4096 + r.val) :
    X (ix2 r b) = logit A0 A1 A2 u b - logSum A0 A1 A2 b := by
  have hN : t.val < 50 := lt_of_lt_of_eq t.isLt N_1
  obtain ⟨e, z, hz, rfl⟩ := hX ht
  rw [fused1_apply, logP_apply c A0 A1 A2 b z hz,
    fused2_logit c A0 A1 A2 t e r b u (by rw [hu]; congr 2; omega)]

theorem arr3_eq (G : Vec Ideal S100000x1024 .f32) (hG : (rdat (F := Ideal) c A0 A1 A2 A3).ArrAt 3 cfg1.N G) :
    G = outVal A0 A1 A2 := by
  obtain ⟨X, hX, hA⟩ := hG.exists_exact
  rw [hA (Function.update (fun _ _ _ => Classical.arbitrary _) 3 X) fun _ _ _ => by rw [Function.update_self]]
  refine ((rdat (F := Ideal) c A0 A1 A2 A3).withAfter _).arrAt_eq_of_covers 3 _ covers3 fun t hf y => ?_
  have ht : 25 ≤ t.val := flush3 t hf
  obtain ⟨Y, -, hL⟩ := hX t t.isLt hf
  have hO : OutP (F := Ideal) c A0 A1 A2 t (X t) := hL
  rw [Pipeline.RDat.withAfter_after, Function.update_self]
  have y0 : (y 0).val < 4096 := lt_of_lt_of_le (y 0).isLt (win1_3.xsize_le (grid1.coords t) 0)
  have y1 : (y 1).val < 1024 := lt_of_lt_of_le (y 1).isLt (win1_3.xsize_le (grid1.coords t) 1)
  have yu : (t.val - 25) * 4096 + (y 0).val < 100000 := by
    have h : (y 0).val < win1_3.xsize (grid1.coords t) 0 := (y 0).isLt
    rw [xsize3_0 t ht] at h
    omega
  have e1 : (win1_3.xinj (grid1.coords t) y : S4096x1024.Idx) = ix2 (⟨(y 0).val, y0⟩ : Fin 4096) (⟨(y 1).val, y1⟩ : Fin 1024) := by
    funext a
    match a with
    | 0 => rfl
    | 1 => rfl
  have e2 : (((cfg1.win 3).blk t).view.emb y : S100000x1024.Idx)
      = ix2 (⟨(t.val - 25) * 4096 + (y 0).val, yu⟩ : Fin 100000) (⟨(y 1).val, y1⟩ : Fin 1024) := by
    funext a
    apply Fin.ext
    match a with
    | 0 =>
      refine (win1_3.rect_emb_val t y 0).trans ?_
      rw [index3_0 t ht]; rfl
    | 1 =>
      refine (win1_3.rect_emb_val t y 1).trans ?_
      rw [index3_1 t]
      show 0 * 1024 + (y 1).val = (y 1).val
      omega
  show X t (win1_3.xinj (grid1.coords t) y) = outVal A0 A1 A2 (((cfg1.win 3).blk t).view.emb y)
  rw [e2]
  refine (congrArg (X t) e1).trans ?_
  exact outP_apply c A0 A1 A2 t ht (X t) hO ⟨(y 0).val, y0⟩ ⟨(y 1).val, y1⟩ ⟨(t.val - 25) * 4096 + (y 0).val, yu⟩ rfl

end Cert.Proof
-- ==== Proof.Reference.lean ====
/-
  The reference, read one entry at a time over the extended reals: the logit of a row at a word less the logarithm of the sum
  of the row's exponentials, when every index names a row of the table.
-/
module

public import proofs.«01_k».proof.Proof.Gen.ReferenceIdeal.Run
public import proofs.«01_k».proof.Proof.Softmax
public import Idealize.ShloMosaic.Lib.ReduceAll
public import Idealize.ShloMosaic.Lib.Routing.Ops

@[expose] public section

noncomputable section

namespace Cert.Proof.Ref

open Cert.ReferenceIdeal Cert.ReferenceIdeal.Gen
open Idealize.ShloMosaic Idealize.ShloMosaic.TcCoe
open Idealize.SL.Sem

variable (x : IVec S1024 32) (tb w : FVec Ideal S100000x64 .f32)

/-! ## The reference's term in stages -/

/-- The row numbers, a negative one counted from the end. -/
def rIdx : IVec S1024x1 32 :=
  broadcastInDim S1024x1 ![0] bcast_S1024_S1024x1_0 (select (cmpi .slt x (broadcastInDim S1024 ![] bcast_S_S1024 (constantI S_ 32 0#32)))
    (addi x (broadcastInDim S1024 ![] bcast_S_S1024 (constantI S_ 32 100000#32))) x)

/-- Which row numbers are in the table: before the reduction, and reduced. -/
def rIn : IVec S1024x1 1 :=
  andi (cmpi .sge (rIdx x) (broadcastInDim S1024x1 ![] bcast_S_S1024x1 (constantI S_ 32 0#32)))
    (cmpi .sle (rIdx x) (broadcastInDim S1024x1 ![0, 1] bcast_S1x1_S1024x1_0_1 (broadcastInDim S1x1 ![1] bcast_S1_S1x1_1 (constantI S1 32 99999#32))))
def rMask : IVec S1024 1 := Host.reduce IntOp.andi (rIn x) (constantI S_ 1 1#1) reducesTo_S1024x1_S1024_d1 h_S_

/-- The gathered rows, the logits, the rows' maxima, the logits less those, the result. -/
def rRows : FVec Ideal S1024x64 .f32 := Host.gather gather_S100000x64_S1024x1_S1024x64_1_0_n_n_0_1_164 tb (rIdx x)
def rEmb : FVec Ideal S1024x64 .f32 :=
  select (broadcastInDim S1024x64 ![0] bcast_S1024_S1024x64_0 (rMask x)) (rRows x tb)
    (broadcastInDim S1024x64 ![] bcast_S_S1024x64 (constant S_ .f32 0x7FC00000#32))
def rLog : FVec Ideal S1024x100000 .f32 :=
  Host.dotGeneral dot_S1024x64_S64x100000_S1024x100000_1_0_0_1_n_n none (rEmb x tb) (transpose S64x100000 [1, 0] w transposes_S100000x64_S64x100000_1_0)

variable (L : FVec Ideal S1024x100000 .f32)

def rMax : FVec Ideal S1024 .f32 :=
  maximumf (broadcastInDim S1024 ![] bcast_S_S1024 (constant S_ .f32 0xFF800000#32))
    (Host.reduce FloatOps.maximumf L (constant S_ .f32 0xFF800000#32) reducesTo_S1024x100000_S1024_d1 h_S_)
def rSub (M : FVec Ideal S1024 .f32) : FVec Ideal S1024x100000 .f32 :=
  subf L (broadcastInDim S1024x100000 ![0, 1] bcast_S1024x1_S1024x100000_0_1 (broadcastInDim S1024x1 ![0] bcast_S1024_S1024x1_0 M))
def rOut (D : FVec Ideal S1024x100000 .f32) : FVec Ideal S1024x100000 .f32 :=
  subf D (broadcastInDim S1024x100000 ![0, 1] bcast_S1024x1_S1024x100000_0_1 (Host.log (broadcastInDim S1024x1 ![0] bcast_S1024_S1024x1_0
    (Host.reduceAdd (Host.exp D) (constant S_ .f32 0x00000000#32) reducesTo_S1024x100000_S1024_d1 h_S_))))

theorem res_eq (m : (ℓ : Loc nD τ sig) → Buf (Elt Ideal) ℓ) (c : Dev nD) :
    Value.res_main_v3 m c = rOut (rSub (rLog (m ((c.tc : Thread nD τ).loc main_arg0)) (m ((c.tc : Thread nD τ).loc main_arg1)) (m ((c.tc : Thread nD τ).loc main_arg2)))
      (rMax (rLog (m ((c.tc : Thread nD τ).loc main_arg0)) (m ((c.tc : Thread nD τ).loc main_arg1)) (m ((c.tc : Thread nD τ).loc main_arg2))))) := by
  unfold Value.res_main_v3
  rfl

/-! ## Log-softmax -/

theorem max_negInf (R : FVec Ideal S1024 .f32) (j : S1024.Idx) :
    maximumf (broadcastInDim S1024 ![] bcast_S_S1024 (constant S_ .f32 0xFF800000#32)) R j = R j := by
  show max (Ideal.ofBits .f32 0xFF800000#32) (R j) = R j
  rw [negInf]
  exact bot_sup_eq _

theorem rMax_apply (b : Fin 1024) : rMax L (ix1 b) = Finset.univ.fold max (⊥ : EReal) fun u : Fin 100000 => L (ix2 b u) :=
  (max_negInf _ _).trans
    (rowMax_apply L (constant (F := Ideal) S_ .f32 0xFF800000#32) reducesTo_S1024x100000_S1024_d1 h_S_ (fun _ => negInf) b)

theorem rSub_apply (M : FVec Ideal S1024 .f32) (b : Fin 1024) (u : Fin 100000) : rSub L M (ix2 b u) = L (ix2 b u) - M (ix1 b) := by
  pointwise [rSub]

theorem rOut_apply (D : FVec Ideal S1024x100000 .f32) (b : Fin 1024) (u : Fin 100000) :
    rOut D (ix2 b u) = D (ix2 b u) - Ideal.log (0 + ∑ v : Fin 100000, Ideal.exp (D (ix2 b v))) := by
  pointwise [rOut]

/-- The result, as the reference leaves it. -/
theorem out_apply (b : Fin 1024) (v : Fin 100000) :
    rOut (rSub L (rMax L)) (ix2 b v) = L (ix2 b v) - Ideal.log (∑ u : Fin 100000, Ideal.exp (L (ix2 b u))) := by
  have hM := fold_max_bot (n := 99999) fun u => L (ix2 b u)
  rw [← rMax_apply] at hM
  rw [rOut_apply]
  simp only [rSub_apply]
  exact log_softmax_shift (fun u => L (ix2 b u)) (rMax L (ix1 b)) hM.1 hM.2 v

/-! ## The rows taken from the table -/

theorem toInt_of_lt (v : BitVec 32) (h : v.toNat < 100000) : v.toInt = (v.toNat : ℤ) :=
  BitVec.toInt_eq_toNat_of_lt (by omega)

variable (hx : ∀ b : Fin 1024, (x (ix1 b)).toNat < 100000)
include hx

theorem rIdx_apply (b : Fin 1024) : rIdx x (ix2 b (0 : Fin 1)) = x (ix1 b) := by
  pointwise [rIdx]
  have h := hx b
  generalize x (ix1 b) = v at h
  have e : IntOp.cmpi .slt v 0#32 = 0#1 := by
    show BitVec.ofBool (BitVec.slt v 0#32) = 0#1
    unfold BitVec.slt
    rw [toInt_of_lt v h, show (0#32).toInt = 0 from by decide, decide_eq_false (by omega)]
    rfl
  rw [e]
  exact if_neg (by decide)

theorem rMask_apply (b : Fin 1024) : rMask x (ix1 b) = 1#1 := by
  unfold rMask
  refine Host.reduce_andi_one _ _ _ _ _ rfl fun i => ?_
  idx_vars i
  obtain rfl : i1 = 0 := Subsingleton.elim _ _
  have h := hx i0
  have e : rIn x (ix2 i0 (0 : Fin 1)) = IntOp.andi (IntOp.cmpi .sge (rIdx x (ix2 i0 (0 : Fin 1))) 0#32) (IntOp.cmpi .sle (rIdx x (ix2 i0 (0 : Fin 1))) 99999#32) := by
    pointwise [rIn]
  rw [e, rIdx_apply x hx]
  generalize x (ix1 i0) = v at h
  have e1 : IntOp.cmpi .sge v 0#32 = 1#1 := by
    show BitVec.ofBool (BitVec.sle 0#32 v) = 1#1
    unfold BitVec.sle
    rw [toInt_of_lt v h, show (0#32).toInt = 0 from by decide, decide_eq_true (by omega)]
    rfl
  have e2 : IntOp.cmpi .sle v 99999#32 = 1#1 := by
    show BitVec.ofBool (BitVec.sle v 99999#32) = 1#1
    unfold BitVec.sle
    rw [toInt_of_lt v h, show (99999#32).toInt = 99999 from by decide, decide_eq_true (by omega)]
    rfl
  rw [e1, e2]
  decide

theorem rRows_apply (b : Fin 1024) (k : Fin 64) : rRows x tb (ix2 b k) = tb (ix2 (⟨(x (ix1 b)).toNat, hx b⟩ : Fin 100000) k) := by
  unfold rRows
  rw [ix2_eq_valueIdx, ix2_eq_valueIdx]
  refine Routing.gather_row gather_S100000x64_S1024x1_S1024x64_1_0_n_n_0_1_164 rfl rfl rfl rfl rfl tb (rIdx x) b k _ ?_ (by decide)
  rw [← ix2_eq_valueIdx, rIdx_apply x hx]
  exact (BitVec.ofNat_toNat 32 _).symm ▸ (BitVec.setWidth_eq _).symm

theorem rEmb_apply (b : Fin 1024) (k : Fin 64) : rEmb x tb (ix2 b k) = tb (ix2 (⟨(x (ix1 b)).toNat, hx b⟩ : Fin 100000) k) := by
  pointwise [rEmb]
  rw [rMask_apply x hx, rRows_apply x tb hx]
  exact if_pos rfl

theorem rLog_apply (b : Fin 1024) (u : Fin 100000) :
    rLog x tb w (ix2 b u) = ∑ k : Fin 64, tb (ix2 (⟨(x (ix1 b)).toNat, hx b⟩ : Fin 100000) k) * w (ix2 u k) := by
  pointwise [rLog]
  exact Finset.sum_congr rfl fun k _ => by rw [rEmb_apply x tb hx]

end Cert.Proof.Ref
-- ==== Proof.Value.lean ====
/-
  The value: over the extended reals the kernel's result is the reference's, whatever the table and the weights hold, for
  indices that name rows of the table.
-/
module

public import proofs.«01_k».proof.Proof.Frames
public import proofs.«01_k».proof.Proof.Blocks
public import proofs.«01_k».proof.Proof.Reference

@[expose] public section

noncomputable section

namespace Cert.Proof

open Cert.KernelIdeal Cert.KernelIdeal.Gen
open Idealize.ShloMosaic Idealize.SL.Sem

/-! ## The row of the table that the kernel's parts read -/

theorem pair_apply (T : FVec Ideal S100000x64 .f32) (i : Fin 50000) (c : Fin 128) (u : Fin 100000) (k : Fin 64)
    (h : i.val * 128 + c.val = u.val * 64 + k.val) :
    shapeCast S50000x128 T shapeCasts_S100000x64_S50000x128 (ix2 i c) = T (ix2 u k) := by
  pointwise
  have hk := k.isLt
  have hc := c.isLt
  refine congrArg T (congrArg₂ ix2 (Fin.ext ?_) (Fin.ext ?_))
  · show i.val * 2 + c.val / 64 = u.val
    omega
  · show c.val % 64 = k.val
    omega

theorem low_bit (v : BitVec 32) : v &&& 1#32 = 0#32 ↔ v.toNat % 2 = 0 := by
  rw [← BitVec.toNat_inj, BitVec.toNat_and]
  show v.toNat &&& 1 = 0 ↔ _
  rw [Nat.and_one_is_mod]

variable (m : (ℓ : Loc nD τ sig) → Buf (Elt Ideal) ℓ) (d : Dev nD)

/-- The three arguments. -/
abbrev argI : IVec S1024 32 := m ((d.tc : Thread nD τ).loc main_arg0)
abbrev argT : FVec Ideal S100000x64 .f32 := m ((d.tc : Thread nD τ).loc main_arg1)
abbrev argW : FVec Ideal S100000x64 .f32 := m ((d.tc : Thread nD τ).loc main_arg2)

theorem col_apply (b : Fin 1024) : (col (F := Ideal) m d : IVec S1024x1 32) (ix2 b (0 : Fin 1)) = argI m d (ix1 b) := by
  show shapeCast S1024x1 (argI m d) shapeCasts_S1024_S1024x1 (ix2 b (0 : Fin 1)) = _
  pointwise

theorem ix_apply (b : Fin 1024) : (ix (F := Ideal) m d : IVec S1x1024 32) (ix2 (0 : Fin 1) b) = argI m d (ix1 b) := by
  show shapeCast S1x1024 (argI m d) shapeCasts_S1024_S1x1024 (ix2 (0 : Fin 1) b) = _
  pointwise

theorem wgt_apply (k : Fin 64) (u : Fin 100000) : (wgt (F := Ideal) m d : FVec Ideal S64x100000 .f32) (ix2 k u) = argW m d (ix2 u k) := by
  show transpose S64x100000 [1, 0] (argW m d) transposes_S100000x64_S64x100000_1_0 (ix2 k u) = _
  pointwise

theorem rows_apply (b : Fin 1024) (c : Fin 128) (u : Fin 100000) (k : Fin 64) (hx : (argI m d (ix1 b)).toNat < 100000)
    (h : (argI m d (ix1 b)).toNat / 2 * 128 + c.val = u.val * 64 + k.val) :
    (rows (F := Ideal) m d : FVec Ideal S1024x128 .f32) (ix2 b c) = argT m d (ix2 u k) := by
  show shapeCast S50000x128 (argT m d) shapeCasts_S100000x64_S50000x128
    (ValueIdx.ix2 (Fin.ofNat 50000 (((ix (F := Ideal) m d (ValueIdx.ix2 (0 : Fin 1) b) : BitVec 32).toNat) / 2)) c) = _
  rw [← ix2_eq_valueIdx, ← ix2_eq_valueIdx, ix_apply]
  refine pair_apply _ _ _ _ _ ?_
  show (argI m d (ix1 b)).toNat / 2 % 50000 * 128 + c.val = _
  omega

theorem halfRow_eq (b : Fin 1024) (k : Fin 64) (hx : (argI m d (ix1 b)).toNat < 100000) :
    halfRow (rows (F := Ideal) m d) (col (F := Ideal) m d) b k
      = argT m d (ix2 (⟨(argI m d (ix1 b)).toNat, hx⟩ : Fin 100000) k) := by
  unfold halfRow
  rw [col_apply]
  by_cases h : argI m d (ix1 b) &&& 1#32 = 0#32
  · have h2 := (low_bit _).1 h
    rw [if_pos h]
    exact rows_apply m d b _ _ k hx (by show (argI m d (ix1 b)).toNat / 2 * 128 + k.val = (argI m d (ix1 b)).toNat * 64 + k.val; omega)
  · have h2 : ¬(argI m d (ix1 b)).toNat % 2 = 0 := fun h' => h ((low_bit _).2 h')
    rw [if_neg h]
    exact rows_apply m d b _ _ k hx (by show (argI m d (ix1 b)).toNat / 2 * 128 + (64 + k.val) = (argI m d (ix1 b)).toNat * 64 + k.val; omega)

/-! ## The two results -/

/-- The reference's logits of the kernel's arguments. -/
abbrev refLog : FVec Ideal S1024x100000 .f32 := Ref.rLog (argI m d) (argT m d) (argW m d)

theorem logit_eq (hx : ∀ b : Fin 1024, (argI m d (ix1 b)).toNat < 100000) (b : Fin 1024) (u : Fin 100000) :
    logit (rows (F := Ideal) m d) (col (F := Ideal) m d) (wgt (F := Ideal) m d) u b = refLog m d (ix2 b u) := by
  unfold refLog
  rw [Ref.rLog_apply _ _ _ hx]
  unfold logit
  exact Finset.sum_congr rfl fun k _ => by rw [wgt_apply, halfRow_eq m d b k (hx b), mul_comm]

theorem res_value (hx : ∀ b : Fin 1024, (argI m d (ix1 b)).toNat < 100000)
    (G : Buf (Elt Ideal) ((d.tc : Thread nD τ).loc main_v5)) (hG : Left (F := Ideal) m d G) :
    res (F := Ideal) d G = Ref.rOut (Ref.rSub (refLog m d) (Ref.rMax (refLog m d))) := by
  have hG' : (G : FVec Ideal S100000x1024 .f32) = outVal (rows (F := Ideal) m d) (col (F := Ideal) m d) (wgt (F := Ideal) m d) :=
    arr3_eq d _ _ _ (out₀ (F := Ideal) m d) G hG
  funext j
  idx_vars j
  rw [Ref.out_apply]
  have e : res (F := Ideal) d G (ix2 j0 j1) = (G : FVec Ideal S100000x1024 .f32) (ix2 j1 j0) := by
    show transpose S1024x100000 [1, 0] (G : FVec Ideal S100000x1024 .f32) transposes_S100000x1024_S1024x100000_1_0 (ix2 j0 j1) = _
    pointwise
  rw [e, hG']
  show logit _ _ _ j1 j0 - logSum _ _ _ j0 = _
  unfold logSum
  rw [logit_eq m d hx]
  simp only [logit_eq m d hx]

/-- The two programs' results agree over the extended reals. -/
theorem algebraic : Cert.algebraic_KernelIdeal_ReferenceIdeal := fun m g m' g' hpre hargs => by
  have hlt : ∀ (d : Dev nD) (j : S1024.Idx), (argI m d j).toNat < 100000 := fun d => pre_lt (hpre d)
  refine ⟨fun d => Ref.rOut (Ref.rSub (refLog m d) (Ref.rMax (refLog m d))), ?_, ?_⟩
  · refine (θ_run Cert.KernelIdeal.defs _ _).mono (fun r h d => ?_) (run_main (F := Ideal) m g (inRange_of m hlt))
    obtain ⟨h0, h1, h2, G, hG, h6⟩ := h.1 d
    exact ⟨h6.trans (res_value m d (fun b => hlt d (ix1 b)) G hG), h0, h1, h2⟩
  · refine (θ_run Cert.ReferenceIdeal.defs _ _).mono (fun r h d => ?_) (Cert.ReferenceIdeal.Value.run (F := Ideal) m' g')
    obtain ⟨h3, h0, h1, h2⟩ := h d
    refine ⟨h3.trans ?_, h0, h1, h2⟩
    rw [Ref.res_eq, (hargs d).1, (hargs d).2.1, (hargs d).2.2]

end Cert.Proof
-- ==== Proof.lean ====
/- The certificate's last theorem: the claims of the statement about the kernel (its frames), the idealised kernel (the same), the
   reference, the idealisation, and the equality of the two results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  frame_kernel, frame_ideal, frame_ref, fun m ρ _ => frame_ref m ρ trivial, trivial, algebraic⟩

end Cert.Proof

end
